-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "c_squared" .f32 0x3CAA8179#32 ((((13421773 / 134217728) * (Real.log 2)⁻¹) * ((13421773 / 134217728) * (Real.log 2)⁻¹) : ℝ) : EReal)
  ∧ IdealRules.named_const.Statement Cert.KernelIdeal.κ "minus_two_c_squared" .f32 0xBD2A8179#32 (((-2) * (((13421773 / 134217728) * (Real.log 2)⁻¹) * ((13421773 / 134217728) * (Real.log 2)⁻¹)) : ℝ) : EReal)

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S4096x32 : Shape := ⟨2, ![4096, 32]⟩
abbrev S4096 : Shape := ⟨1, ![4096]⟩
abbrev S8192x32 : Shape := ⟨2, ![8192, 32]⟩
abbrev S8192 : Shape := ⟨1, ![8192]⟩
abbrev S_ : Shape := ⟨0, ![]⟩
abbrev S4096x1 : Shape := ⟨2, ![4096, 1]⟩
abbrev S1x8192 : Shape := ⟨2, ![1, 8192]⟩
abbrev S32x8192 : Shape := ⟨2, ![32, 8192]⟩
abbrev S4096x8192 : Shape := ⟨2, ![4096, 8192]⟩

class Facts : Prop where
  bcast_S_S4096x32 : S_.BroadcastsInDim S4096x32 (![] : Fin 0 → Fin S4096x32.rank)
  bcast_S_S8192x32 : S_.BroadcastsInDim S8192x32 (![] : Fin 0 → Fin S8192x32.rank)
  reducesTo_S4096x32_S4096_d1 : S4096x32.ReducesTo [1] S4096
  h_S_ : 0 < S_.numel
  bcast_S4096_S4096x1_0 : S4096.BroadcastsInDim S4096x1 (![0] : Fin 1 → Fin S4096x1.rank)
  reducesTo_S8192x32_S8192_d1 : S8192x32.ReducesTo [1] S8192
  bcast_S8192_S1x8192_1 : S8192.BroadcastsInDim S1x8192 (![1] : Fin 1 → Fin S1x8192.rank)
  transposes_S8192x32_S32x8192_1_0 : S8192x32.Transposes [1, 0] S32x8192
  bcast_S_S4096x8192 : S_.BroadcastsInDim S4096x8192 (![] : Fin 0 → Fin S4096x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096 : S_.BroadcastsInDim S4096 (![] : Fin 0 → Fin S4096.rank)
  bcast_S_S8192 : S_.BroadcastsInDim S8192 (![] : Fin 0 → Fin S8192.rank)
  dot_S4096x32_S32x8192_S4096x8192_1_0_0_1_n_n_wf : DotDims.WF S4096x32 S32x8192 S4096x8192 [1] [0] [0] [1] [] []

variable [Facts]

def dot_S4096x32_S32x8192_S4096x8192_1_0_0_1_n_n : DotDims S4096x32 S32x8192 S4096x8192 where
  lhsContracting := [1]
  rhsContracting := [0]
  lhsNonContracting := [0]
  rhsNonContracting := [1]
  lhsBatch := []
  rhsBatch := []
  wf := dot_S4096x32_S32x8192_S4096x8192_1_0_0_1_n_n_wf
def fn_part1 {F : FTy → Type} [FloatOps F] (main_arg1 : IVec S4096 32) (main_arg3 : IVec S8192 32) (main_v2 : IVec S4096x32 1) (main_v5 : IVec S8192x32 1) (main_v10 : FVec F S4096x1 .f32) (main_v13 : FVec F S1x8192 .f32) (main_v17 : FVec F S4096x8192 .f32) : IVec S4096x32 1 × IVec S8192x32 1 × IVec S4096x8192 1 × IVec S4096 1 × IVec S8192 1 :=
  let main_v18 : FVec F S4096x8192 .f32 := broadcastInDim S4096x8192 ![0, 1] bcast_S4096x1_S4096x8192_0_1 main_v10
  let main_v19 : FVec F S4096x8192 .f32 := subf main_v18 main_v17
  let main_v20 : FVec F S4096x8192 .f32 := broadcastInDim S4096x8192 ![0, 1] bcast_S1x8192_S4096x8192_0_1 main_v13
  let main_v21 : FVec F S4096x8192 .f32 := addf main_v19 main_v20
  let main_cst_5 : FVec F S_ .f32 := constant S_ .f32 0x107D87B6#32
  let main_v22 : FVec F S4096x8192 .f32 := broadcastInDim S4096x8192 ![] bcast_S_S4096x8192 main_cst_5
  let main_v23 : IVec S4096x8192 1 := cmpf .oge main_v21 main_v22
  let main_c : IVec S_ 32 := constantI S_ 32 100#32
  let main_v24 : IVec S4096 32 := broadcastInDim S4096 ![] bcast_S_S4096 main_c
  let main_v25 : IVec S4096 1 := cmpi .ne main_arg1 main_v24
  let main_v26 : IVec S8192 32 := iotaInDim S8192 32 0
  let main_c_6 : IVec S_ 32 := constantI S_ 32 100#32
  let main_v27 : IVec S8192 32 := broadcastInDim S8192 ![] bcast_S_S8192 main_c_6
  let main_v28 : IVec S8192 32 := Host.remsi main_v26 main_v27
  let main_v29 : IVec S8192 1 := cmpi .eq main_arg3 main_v28
  (main_v2, main_v5, main_v23, main_v25, main_v29)

def fn {F : FTy → Type} [FloatOps F] (main_arg0 : FVec F S4096x32 .f32) (main_arg1 : IVec S4096 32) (main_arg2 : FVec F S8192x32 .f32) (main_arg3 : IVec S8192 32) : IVec S4096x32 1 × IVec S8192x32 1 × IVec S4096x8192 1 × IVec S4096 1 × IVec S8192 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_v3 : FVec F S8192x32 .f32 := Host.absf main_arg2
  let main_cst_0 : FVec F S_ .f32 := constant S_ .f32 0x7F800000#32
  let main_v4 : FVec F S8192x32 .f32 := broadcastInDim S8192x32 ![] bcast_S_S8192x32 main_cst_0
  let main_v5 : IVec S8192x32 1 := cmpf .olt main_v3 main_v4
  let main_cst_1 : FVec F S_ .f32 := constant S_ .f32 0x358637BD#32
  let main_v6 : FVec F S4096x32 .f32 := broadcastInDim S4096x32 ![] bcast_S_S4096x32 main_cst_1
  let main_v7 : FVec F S4096x32 .f32 := addf main_arg0 main_v6
  let main_v8 : FVec F S4096x32 .f32 := mulf main_v7 main_v7
  let main_cst_2 : FVec F S_ .f32 := constant S_ .f32 0x00000000#32
  let main_v9 : FVec F S4096 .f32 := (fun x v => Host.reduceAdd x v reducesTo_S4096x32_S4096_d1 h_S_) main_v8 main_cst_2
  let main_v10 : FVec F S4096x1 .f32 := broadcastInDim S4096x1 ![0] bcast_S4096_S4096x1_0 main_v9
  let main_v11 : FVec F S8192x32 .f32 := mulf main_arg2 main_arg2
  let main_cst_3 : FVec F S_ .f32 := constant S_ .f32 0x00000000#32
  let main_v12 : FVec F S8192 .f32 := (fun x v => Host.reduceAdd x v reducesTo_S8192x32_S8192_d1 h_S_) main_v11 main_cst_3
  let main_v13 : FVec F S1x8192 .f32 := broadcastInDim S1x8192 ![1] bcast_S8192_S1x8192_1 main_v12
  let main_v14 : FVec F S32x8192 .f32 := (transpose S32x8192 [1, 0] · transposes_S8192x32_S32x8192_1_0) main_arg2
  let main_v15 : FVec F S4096x8192 .f32 := (fun l r => Host.dotGeneral dot_S4096x32_S32x8192_S4096x8192_1_0_0_1_n_n none l r) main_v7 main_v14
  let main_cst_4 : FVec F S_ .f32 := constant S_ .f32 0x40000000#32
  let main_v16 : FVec F S4096x8192 .f32 := broadcastInDim S4096x8192 ![] bcast_S_S4096x8192 main_cst_4
  let main_v17 : FVec F S4096x8192 .f32 := mulf main_v16 main_v15
  fn_part1 (F := F) main_arg1 main_arg3 main_v2 main_v5 main_v10 main_v13 main_v17
-- ==== Kernel.lean ====
abbrev S4096x32 : Shape := ⟨2, ![4096, 32]⟩
abbrev S4096 : Shape := ⟨1, ![4096]⟩
abbrev S8192x32 : Shape := ⟨2, ![8192, 32]⟩
abbrev S8192 : Shape := ⟨1, ![8192]⟩
abbrev S4096x1 : Shape := ⟨2, ![4096, 1]⟩
abbrev S512x32 : Shape := ⟨2, ![512, 32]⟩
abbrev S8192x34 : Shape := ⟨2, ![8192, 34]⟩
abbrev S8192x128 : Shape := ⟨2, ![8192, 128]⟩
abbrev S4096x128 : Shape := ⟨2, ![4096, 128]⟩
abbrev S8192x1 : Shape := ⟨2, ![8192, 1]⟩
abbrev S512 : Shape := ⟨1, ![512]⟩
abbrev S512x1 : Shape := ⟨2, ![512, 1]⟩
abbrev S512x34 : Shape := ⟨2, ![512, 34]⟩
abbrev S512x8192 : Shape := ⟨2, ![512, 8192]⟩
abbrev S512x128 : Shape := ⟨2, ![512, 128]⟩

abbrev nBuf : Space → Nat
  | .hbm => 7
  | .vmem => 8
  | .smem => 0
  | _ => 0

abbrev bufTy : (tb : Table) → Fin (tcTables nBuf tb) → BufTy
  | .hbm, ⟨0, _⟩ => ⟨S4096x32, .f32⟩
  | .hbm, ⟨1, _⟩ => ⟨S4096, .i32⟩
  | .hbm, ⟨2, _⟩ => ⟨S8192x32, .f32⟩
  | .hbm, ⟨3, _⟩ => ⟨S8192, .i32⟩
  | .hbm, ⟨4, _⟩ => ⟨S4096x1, .i32⟩
  | .hbm, ⟨5, _⟩ => ⟨S4096x1, .f32⟩
  | .hbm, ⟨6, _⟩ => ⟨S4096, .f32⟩
  | .local _ .vmem, ⟨0, _⟩ => ⟨S512x32, .f32⟩
  | .local _ .vmem, ⟨1, _⟩ => ⟨S512x32, .f32⟩
  | .local _ .vmem, ⟨2, _⟩ => ⟨S4096x1, .i32⟩
  | .local _ .vmem, ⟨3, _⟩ => ⟨S8192x32, .f32⟩
  | .local _ .vmem, ⟨4, _⟩ => ⟨S4096x1, .f32⟩
  | .local _ .vmem, ⟨5, _⟩ => ⟨S8192x34, .f32⟩
  | .local _ .vmem, ⟨6, _⟩ => ⟨S8192x128, .f32⟩
  | .local _ .vmem, ⟨7, _⟩ => ⟨S4096x128, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v26 : BitVec 32 := Scalar.muli arg0 c512_i32
  let v27 : Index := Scalar.indexCast v26
  let c0_14 : Index := 0#32
  ![v27.toNat, 0]
def k0_cond2 (i : grid0.Coords) : BitVec 1 :=
  let arg0 : BitVec 32 := BitVec.ofNat 32 (i 0).val
  let c7_i32 : BitVec 32 := 7#32
  let v31 : BitVec 1 := Scalar.cmpi .eq arg0 c7_i32
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "c_squared" => some ((((13421773 / 134217728) * (Real.log 2)⁻¹) * ((13421773 / 134217728) * (Real.log 2)⁻¹) : ℝ) : EReal)
  | "minus_two_c_squared" => some (((-2) * (((13421773 / 134217728) * (Real.log 2)⁻¹) * ((13421773 / 134217728) * (Real.log 2)⁻¹)) : ℝ) : EReal)
  | _ => none
-- ==== ReferenceIdeal.lean ====
abbrev S4096x32 : Shape := ⟨2, ![4096, 32]⟩
abbrev S4096 : Shape := ⟨1, ![4096]⟩
abbrev S8192x32 : Shape := ⟨2, ![8192, 32]⟩
abbrev S8192 : Shape := ⟨1, ![8192]⟩
abbrev S_ : Shape := ⟨0, ![]⟩
abbrev S4096x1 : Shape := ⟨2, ![4096, 1]⟩
abbrev S1x8192 : Shape := ⟨2, ![1, 8192]⟩
abbrev S32x8192 : Shape := ⟨2, ![32, 8192]⟩
abbrev S4096x8192 : Shape := ⟨2, ![4096, 8192]⟩

abbrev nBuf : Space → Nat
  | .hbm => 53
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S4096, .i32⟩
  | .hbm, ⟨2, _⟩ => ⟨S8192x32, .f32⟩
  | .hbm, ⟨3, _⟩ => ⟨S8192, .i32⟩
  | .hbm, ⟨4, _⟩ => ⟨S_, .f32⟩
  | .hbm, ⟨5, _⟩ => ⟨S4096x32, .f32⟩
  | .hbm, ⟨6, _⟩ => ⟨S4096x32, .f32⟩
  | .hbm, ⟨7, _⟩ => ⟨S4096x32, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S8192x32, .f32⟩
  | .hbm, ⟨12, _⟩ => ⟨S_, .f32⟩
  | .hbm, ⟨13, _⟩ => ⟨S8192, .f32⟩
  | .hbm, ⟨14, _⟩ => ⟨S1x8192, .f32⟩
  | .hbm, ⟨15, _⟩ => ⟨S32x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S_, .f32⟩
  | .hbm, ⟨33, _⟩ => ⟨S4096, .f32⟩
  | .hbm, ⟨34, _⟩ => ⟨S1x8192, .i32⟩
  | .hbm, ⟨35, _⟩ => ⟨S4096x1, .i32⟩
  | .hbm, ⟨36, _⟩ => ⟨S4096x8192, .i32⟩
  | .hbm, ⟨37, _⟩ => ⟨S4096x8192, .i32⟩
  | .hbm, ⟨38, _⟩ => ⟨S4096x8192, .i1⟩
  | .hbm, ⟨39, _⟩ => ⟨S4096x8192, .f32⟩
  | .hbm, ⟨40, _⟩ => ⟨S4096x8192, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .i1⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.KernelShared.lean ====
/- What the run of the idealized kernel is stated over: where its two conditions hold, the staging and scratch
   buffers at a grid point, and the region's invariant spelt buffer by buffer. -/
module

public import proofs.«01_k».proof.Proof.Gen.KernelIdeal.Frame
public import proofs.«01_k».proof.Proof.Gen.KernelIdeal.Skeleton

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The body's first condition: this is the grid's first point. -/
abbrev atFirst (i : grid0.Coords) : Prop :=
  (Scalar.cmpi .ne (Scalar.extui (Scalar.cmpi .eq (BitVec.ofNat 32 (i 0).val) 0#32)) 0#32) = 1#1

/-- It holds exactly at point 0. -/
theorem atFirst_iff : ∀ t : Fin cfg0.N, atFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val / 1 % 8 = t.val := by omega
    simp only [atFirst, e0, e1]
    word_cmp
   : ∀ t : Fin grid0.N, atFirst (grid0.coords t) ↔ t.val = 0)

/-- The body's second condition: this is the grid's last point. -/
abbrev atLast (i : grid0.Coords) : Prop := k0_cond2 i = 1#1

/-- It holds exactly at point 7. -/
theorem atLast_iff : ∀ t : Fin cfg0.N, atLast (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    have e1 : t.val / 1 % 8 = t.val := by omega
    simp only [atLast, k0_cond2, e0, e1]
    word_cmp
   : ∀ t : Fin grid0.N, atLast (grid0.coords t) ↔ t.val = 7)

/-- The first row of the scratch rows that point `t` stores: 512 per point. -/
theorem rowOffset : ∀ t : Fin cfg0.N, k0_off1 (grid0.coords t) = ![512 * t.val, 0] :=
  (by decide : ∀ t : Fin grid0.N, k0_off1 (grid0.coords t) = ![512 * t.val, 0])

/-- The staging buffer of window 0 (the block of tokens) at point `t`. -/
abbrev bufTokens (t : Fin cfg0.N) : Memref sig .tc .vmem S512x32 .f32 := win0_0.stage (cfg0.slots t 0)
/-- The staging buffer of window 1 (the labels). -/
abbrev bufLabels (t : Fin cfg0.N) : Memref sig .tc .vmem S4096x1 .i32 := win0_1.stage (cfg0.slots t 1)
/-- The staging buffer of window 2 (the prototypes). -/
abbrev bufProtos (t : Fin cfg0.N) : Memref sig .tc .vmem S8192x32 .f32 := win0_2.stage (cfg0.slots t 2)
/-- The staging buffer of window 3 (the result). -/
abbrev bufOut (t : Fin cfg0.N) : Memref sig .tc .vmem S4096x1 .f32 := win0_3.stage (cfg0.slots t 3)
/-- The scratch that holds the prototypes with their two extra columns. -/
abbrev scTable : Memref sig .tc .vmem S8192x34 .f32 := Memref.whole cc0_scratch0
/-- The scratch that holds the class mask. -/
abbrev scMask : Memref sig .tc .vmem S8192x128 .f32 := Memref.whole cc0_scratch1
/-- The scratch that collects the class sums of every token. -/
abbrev scSums : Memref sig .tc .vmem S4096x128 .f32 := Memref.whole cc0_scratch2

/-- The region's own invariant, buffer by buffer: the three scratches at some contents and the generator register at
    some state. -/
theorem invariant_eq (c : Dev nD) :
    (Pipeline.ΦA spec0 c : sProp 𝕄)
      = iprop(iprop((∃ d, owns (c : Thread nD τ) scTable fullShare d) ∗ (∃ d, owns (c : Thread nD τ) scMask fullShare d)
          ∗ (∃ d, owns (c : Thread nD τ) scSums fullShare d)) ∗ (∃ r, prngReg c r)) := by
  unfold Pipeline.ΦA; rw [scopedRest0_eq]; simp only [scTable, scMask, scSums, owns_whole]; try rfl

end Cert.KernelIdeal.Run

end
-- ==== Proof.KernelRun.lean ====
/- What one run of the kernel's body does to its buffers, in its three cases: the first grid point (which also builds the
   two tables), a middle point, and the last point (which also stores the result). -/
module

public import proofs.«01_k».proof.Proof.KernelShared
public import Idealize.ShloMosaic.Lib.Pointwise.Index
public import Idealize.ShloMosaic.Lib.WritesUnit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The table of prototypes: 32 columns of prototypes, a column of ones, and a column of scaled squared norms. -/
def tableOf (x : Vec F S8192x32 .f32) : Vec F S8192x34 .f32 := fun y =>
  if h : (y 1).val < 32 then k0_pay1 x (ix2 (y 0) ⟨(y 1).val, h⟩)
  else if (y 1).val = 32 then k0_pay2 (F := F) (ix2 (y 0) 0)
  else k0_pay3 x (ix2 (y 0) 0)

/-- The class sums after a block of 512 rows is stored at row `o`: the block on those rows, the old contents elsewhere. -/
def insertRows (o : ℕ) (blk : Vec F S512x128 .f32) (old : Vec F S4096x128 .f32) : Vec F S4096x128 .f32 := fun y =>
  if h : o ≤ (y 0).val ∧ (y 0).val < o + 512 then blk (ix2 ⟨(y 0).val - o, by omega⟩ (y 1)) else old y

/-- A load of a whole buffer reads its contents. -/
theorem load_whole {s : Shape} {e : EltTy} (v : View sig .tc .vmem s e) (f : v.ty.Contents (Elt F))
    {off : Fin s.rank → ℕ} (inb : ∀ a, off a + s.size a ≤ s.size a) :
    v.readAt (Elt F) (Rect.unit off s.size inb).toLoadRect f = v.read (Elt F) f := by
  funext x
  rw [View.readAt_apply]
  congr 1
  funext a
  apply Fin.ext
  have := inb a
  show off a + 1 * (x a).val = (x a).val
  omega

/-- A whole buffer's contents after a store of the whole buffer are what was stored. -/
theorem read_stored {s : Shape} {e : EltTy} (v : View sig .tc .vmem s e) (f : v.ty.Contents (Elt F))
    {off : Fin s.rank → ℕ} (inb : ∀ a, off a + s.size a ≤ s.size a) (w : s.Idx → Elt F e) (L : List (View.Piece (Elt F) s e)) :
    v.read (Elt F) (v.writes (Elt F) f (⟨Rect.unit off s.size inb, w⟩ :: L)) = w := by
  funext x
  exact View.read_writes_cons_unit_of_mem v f inb w L x x rfl fun a => by have := inb a; omega

/-- The class sums' buffer after the store of a block of rows. -/
theorem read_rows (v : View sig .tc .vmem S4096x128 .f32) (f : v.ty.Contents (Elt F)) {off : Fin 2 → ℕ} {o : ℕ}
    (inb : ∀ a : Fin 2, off a + S512x128.size a ≤ S4096x128.size a) (hoff : off = ![o, 0]) (w : Vec F S512x128 .f32) :
    v.read (Elt F) (v.writes (Elt F) f [⟨Rect.unit (s := S4096x128) off S512x128.size inb, w⟩])
      = insertRows o w (v.read (Elt F) f) := by
  funext y
  unfold insertRows
  by_cases h : o ≤ (y 0).val ∧ (y 0).val < o + 512
  · rw [dif_pos h]
    exact View.read_writes_cons_rows_of_mem v f inb w [] y _ hoff
      (show (y 0).val = o + ((y 0).val - o) by omega) rfl
  · rw [dif_neg h]
    exact View.read_writes_cons_rows_of_not_mem v f inb w [] y hoff rfl
      (show (y 0).val < o ∨ o + 512 ≤ (y 0).val by omega)

/-- The table's buffer after its three stores. -/
theorem read_table (v : View sig .tc .vmem S8192x34 .f32) (f : v.ty.Contents (Elt F)) (x : Vec F S8192x32 .f32) :
    v.read (Elt F) (v.writes (Elt F) f
        [⟨Rect.unit (s := S8192x34) ![0, 33] S8192x1.size inb_S8192x34_S8192x1_0_33, k0_pay3 x⟩,
         ⟨Rect.unit (s := S8192x34) ![0, 32] S8192x1.size inb_S8192x34_S8192x1_0_32, k0_pay2 (F := F)⟩,
         ⟨Rect.unit (s := S8192x34) ![0, 0] S8192x32.size inb_S8192x34_S8192x32_0_0, k0_pay1 x⟩])
      = tableOf x := by
  funext y
  have hy : (y 1).val < 34 := (y 1).isLt
  unfold tableOf
  by_cases h : (y 1).val < 32
  · rw [dif_pos h]
    refine (View.read_writes_cons_unit_of_not_mem v f _ _ _ y rfl (1 : Fin 2) (Or.inl (show (y 1).val < 33 by omega))).trans ?_
    refine (View.read_writes_cons_unit_of_not_mem v f _ _ _ y rfl (1 : Fin 2) (Or.inl (show (y 1).val < 32 by omega))).trans ?_
    exact View.read_writes_cons_unit_of_mem v f _ _ [] y _ rfl (Fin.forall_fin_two.mpr
      ⟨(Nat.zero_add _).symm, (Nat.zero_add _).symm⟩)
  · rw [dif_neg h]
    by_cases h2 : (y 1).val = 32
    · rw [if_pos h2]
      refine (View.read_writes_cons_unit_of_not_mem v f _ _ _ y rfl (1 : Fin 2) (Or.inl (show (y 1).val < 33 by omega))).trans ?_
      exact View.read_writes_cons_unit_of_mem v f _ _ _ y _ rfl (Fin.forall_fin_two.mpr
        ⟨(Nat.zero_add _).symm, show (y 1).val = 32 + 0 by omega⟩)
    · rw [if_neg h2]
      exact View.read_writes_cons_unit_of_mem v f _ _ _ y _ rfl (Fin.forall_fin_two.mpr
        ⟨(Nat.zero_add _).symm, show (y 1).val = 33 + 0 by omega⟩)

set_option maxHeartbeats 2000000 in
/-- The first point: the two tables are built, and the point's block of class sums is stored. -/
theorem first_point (c : Dev nD) (i : grid0.Coords) (o : ℕ) (ho : k0_off1 i = ![o, 0]) (arg1 : Memref sig .tc .vmem S512x32 .f32) (harg1 : arg1.IsWhole) (arg2 : Memref sig .tc .vmem S4096x1 .i32) (harg2 : arg2.IsWhole) (arg3 : Memref sig .tc .vmem S8192x32 .f32) (harg3 : arg3.IsWhole) (arg4 : Memref sig .tc .vmem S4096x1 .f32) (harg4 : arg4.IsWhole) (arg5 : Memref sig .tc .vmem S8192x34 .f32) (harg5 : arg5.IsWhole) (arg6 : Memref sig .tc .vmem S8192x128 .f32) (harg6 : arg6.IsWhole) (arg7 : Memref sig .tc .vmem S4096x128 .f32) (harg7 : arg7.IsWhole)
    (hc0 : atFirst i) (hc1 : ¬atLast i)
    (x0 : Vec F S512x32 .f32) (x1 : Vec F S4096x1 .i32) (x2 : Vec F S8192x32 .f32) (x3 : Vec F S4096x1 .f32) (xs2 : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (tableOf x2) ∗ owns (c : Thread nD τ) arg6 fullShare (k0_pay4 (F := F)) ∗ owns (c : Thread nD τ) arg7 fullShare (insertRows o (k0_pay5 x0 (tableOf x2) (k0_pay4 (F := F))) xs2)) -∗ K ⟨⟩))
      ⊢ wp frame (wpE (defs₀ (F := F)) Variants.none c none) E (cc0__dce_kernel i arg1 harg1 arg2 harg2 arg3 harg3 arg4 harg4 arg5 harg5 arg6 harg6 arg7 harg7) K := by
  simp only [cc0__dce_kernel_eq_skeleton]; unfold cc0__dce_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg1.eq_unread hf1; obtain rfl := harg2.eq_unread hf2; obtain rfl := harg3.eq_unread hf3; obtain rfl := harg4.eq_unread hf4; obtain rfl := harg7.eq_unread hf7
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; unfold first_point.sl.H5_3; rw [load_whole, hf3]; exact read_table _ _ _
  isplitl [H6]
  · iexists _; isplitr; swap; · iexact H6
    ipureintro; exact read_stored _ _ _ _ _
  · iexists _; isplitr; swap; · iexact H7
    ipureintro; unfold first_point.sl.v15 first_point.sl.v24 first_point.sl.H5_3 first_point.sl.H6_1 View.readCov; rw [load_whole, load_whole, load_whole, load_whole, hf1, hf3, read_table, read_stored, read_rows _ _ _ ho, hf7]

set_option maxHeartbeats 2000000 in
/-- A middle point: the point's block of class sums is stored. -/
theorem middle_point (c : Dev nD) (i : grid0.Coords) (o : ℕ) (ho : k0_off1 i = ![o, 0]) (arg1 : Memref sig .tc .vmem S512x32 .f32) (harg1 : arg1.IsWhole) (arg2 : Memref sig .tc .vmem S4096x1 .i32) (harg2 : arg2.IsWhole) (arg3 : Memref sig .tc .vmem S8192x32 .f32) (harg3 : arg3.IsWhole) (arg4 : Memref sig .tc .vmem S4096x1 .f32) (harg4 : arg4.IsWhole) (arg5 : Memref sig .tc .vmem S8192x34 .f32) (harg5 : arg5.IsWhole) (arg6 : Memref sig .tc .vmem S8192x128 .f32) (harg6 : arg6.IsWhole) (arg7 : Memref sig .tc .vmem S4096x128 .f32) (harg7 : arg7.IsWhole)
    (hc0 : ¬atFirst i) (hc1 : ¬atLast i)
    (x0 : Vec F S512x32 .f32) (x1 : Vec F S4096x1 .i32) (x2 : Vec F S8192x32 .f32) (x3 : Vec F S4096x1 .f32) (xs0 : Vec F S8192x34 .f32) (xs1 : Vec F S8192x128 .f32) (xs2 : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs0 ∗ owns (c : Thread nD τ) arg6 fullShare xs1 ∗ owns (c : Thread nD τ) arg7 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs0 ∗ owns (c : Thread nD τ) arg6 fullShare xs1 ∗ owns (c : Thread nD τ) arg7 fullShare (insertRows o (k0_pay5 x0 xs0 xs1) xs2)) -∗ K ⟨⟩))
      ⊢ wp frame (wpE (defs₀ (F := F)) Variants.none c none) E (cc0__dce_kernel i arg1 harg1 arg2 harg2 arg3 harg3 arg4 harg4 arg5 harg5 arg6 harg6 arg7 harg7) K := by
  simp only [cc0__dce_kernel_eq_skeleton]; unfold cc0__dce_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  · iexists _; isplitr; swap; · iexact H7
    ipureintro; rw [load_whole, load_whole, load_whole, hf1, hf5, hf6, read_rows _ _ _ ho, hf7]

set_option maxHeartbeats 2000000 in
/-- The last point: the point's block of class sums is stored, and the result is computed from all of them. -/
theorem last_point (c : Dev nD) (i : grid0.Coords) (o : ℕ) (ho : k0_off1 i = ![o, 0]) (arg1 : Memref sig .tc .vmem S512x32 .f32) (harg1 : arg1.IsWhole) (arg2 : Memref sig .tc .vmem S4096x1 .i32) (harg2 : arg2.IsWhole) (arg3 : Memref sig .tc .vmem S8192x32 .f32) (harg3 : arg3.IsWhole) (arg4 : Memref sig .tc .vmem S4096x1 .f32) (harg4 : arg4.IsWhole) (arg5 : Memref sig .tc .vmem S8192x34 .f32) (harg5 : arg5.IsWhole) (arg6 : Memref sig .tc .vmem S8192x128 .f32) (harg6 : arg6.IsWhole) (arg7 : Memref sig .tc .vmem S4096x128 .f32) (harg7 : arg7.IsWhole)
    (hc0 : ¬atFirst i) (hc1 : atLast i)
    (x0 : Vec F S512x32 .f32) (x1 : Vec F S4096x1 .i32) (x2 : Vec F S8192x32 .f32) (xs0 : Vec F S8192x34 .f32) (xs1 : Vec F S8192x128 .f32) (xs2 : Vec F S4096x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1 ∗ owns (c : Thread nD τ) arg7 fullShare xs2
        ∗ (iprop(owns (c : Thread nD τ) arg1 fullShare x0 ∗ owns (c : Thread nD τ) arg2 fullShare x1 ∗ owns (c : Thread nD τ) arg3 fullShare x2 ∗ owns (c : Thread nD τ) arg4 fullShare (k0_pay6 (insertRows o (k0_pay5 x0 xs0 xs1) xs2) x1) ∗ owns (c : Thread nD τ) arg5 fullShare xs0 ∗ owns (c : Thread nD τ) arg6 fullShare xs1 ∗ owns (c : Thread nD τ) arg7 fullShare (insertRows o (k0_pay5 x0 xs0 xs1) xs2)) -∗ K ⟨⟩))
      ⊢ wp frame (wpE (defs₀ (F := F)) Variants.none c none) E (cc0__dce_kernel i arg1 harg1 arg2 harg2 arg3 harg3 arg4 harg4 arg5 harg5 arg6 harg6 arg7 harg7) K := by
  simp only [cc0__dce_kernel_eq_skeleton]; unfold cc0__dce_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; unfold last_point.sl.v34 last_point.sl.H7_1; rw [read_stored, load_whole, load_whole, load_whole, load_whole, load_whole, hf1, hf2, hf5, hf6, read_rows _ _ _ ho, hf7]
  isplitl [H5]
  · iexists _; isplitr; swap; · iexact H5
    ipureintro; exact harg5.read_unread _
  isplitl [H6]
  · iexists _; isplitr; swap; · iexact H6
    ipureintro; exact harg6.read_unread _
  · iexists _; isplitr; swap; · iexact H7
    ipureintro; unfold last_point.sl.H7_1; rw [load_whole, load_whole, load_whole, hf1, hf5, hf6, read_rows _ _ _ ho, hf7]

end Cert.KernelIdeal.Run

end
-- ==== Proof.KernelBody.lean ====
/- The idealized kernel's whole run: what the scratch buffers hold from point to point, the body at every point, and the
   launch. -/
module

public import proofs.«01_k».proof.Proof.KernelRun

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid's first point. -/
def firstPoint : Fin cfg0.N := ⟨0, by rw [show cfg0.N = 8 from N_0]; decide⟩

/-- The table of prototypes as the first point builds it. -/
def table (c : Dev nD) : Vec F S8192x34 .f32 := tableOf (iblk m c 2 firstPoint)

/-- The class sums of the 512 tokens of point `t`. -/
def blockSums (c : Dev nD) (t : Fin cfg0.N) : Vec F S512x128 .f32 :=
  k0_pay5 (iblk m c 0 t) (table m c) (k0_pay4 (F := F))

/-- The class sums of all 4096 tokens: row `r` is row `r % 512` of the block of point `r / 512`. -/
def sums (c : Dev nD) : Vec F S4096x128 .f32 := fun y =>
  blockSums m c ⟨(y 0).val / 512, by
    have h : (y 0).val < 4096 := (y 0).isLt
    rw [show cfg0.N = 8 from N_0]; omega⟩ (ix2 ⟨(y 0).val % 512, Nat.mod_lt _ (by decide)⟩ (y 1))

/-- The rows of the first `n` points hold their class sums. -/
def AgreeBelow (c : Dev nD) (n : ℕ) (d : Vec F S4096x128 .f32) : Prop :=
  ∀ y : S4096x128.Idx, (y 0).val < 512 * n → d y = sums m c y

/-- Storing point `t`'s block extends the agreement by that point's rows. -/
theorem agree_insert (c : Dev nD) (t : Fin cfg0.N) (d : Vec F S4096x128 .f32) (h : AgreeBelow m c t.val d) :
    AgreeBelow m c (t.val + 1) (insertRows (512 * t.val) (blockSums m c t) d) := by
  intro y hy
  unfold insertRows
  by_cases hb : 512 * t.val ≤ (y 0).val ∧ (y 0).val < 512 * t.val + 512
  · rw [dif_pos hb]
    unfold sums
    have e : (⟨(y 0).val / 512, by
        have h : (y 0).val < 4096 := (y 0).isLt
        rw [show cfg0.N = 8 from N_0]; omega⟩ : Fin cfg0.N) = t := Fin.ext (show (y 0).val / 512 = t.val by omega)
    rw [e]
    congr 2
    exact Fin.ext (show (y 0).val - 512 * t.val = (y 0).val % 512 by omega)
  · rw [dif_neg hb]
    exact h y (by omega)

/-- After the last point every row agrees. -/
theorem agree_all (c : Dev nD) (d : Vec F S4096x128 .f32) (h : AgreeBelow m c 8 d) : d = sums m c :=
  funext fun y => h y (by have h : (y 0).val < 4096 := (y 0).isLt; omega)

/-- What is held before point `n`: at first the scratches at anything; afterwards the two tables, and the class sums of
    the points passed. -/
def PhiS (c : Dev nD) : (n : ℕ) → n ≤ cfg0.N → sProp 𝕄
  | 0, _ => Pipeline.ΦA spec0 c
  | n + 1, _ => iprop(iprop(owns (c : Thread nD τ) scTable fullShare (table m c)
      ∗ owns (c : Thread nD τ) scMask fullShare (k0_pay4 (F := F))
      ∗ (∃ d, ⌜AgreeBelow m c (n + 1) d⌝ ∗ owns (c : Thread nD τ) scSums fullShare d)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scTable fullShare (table m c)
      ∗ owns (c : Thread nD τ) scMask fullShare (k0_pay4 (F := F))
      ∗ (∃ d, ⌜AgreeBelow m c (n + 1) d⌝ ∗ owns (c : Thread nD τ) scSums fullShare d)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scTable fullShare (table m c)
      ∗ owns (c : Thread nD τ) scMask fullShare (k0_pay4 (F := F))
      ∗ (∃ d, ⌜AgreeBelow m c n d⌝ ∗ owns (c : Thread nD τ) scSums fullShare d)) ∗ (∃ r, prngReg c r)) := by
  cases n with
  | zero => exact absurd rfl hz
  | succ n => rfl

/-- The proof data: each input window's buffer stays at its block, the result window's ends at the result computed from
    all class sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay6 (sums m c) (iblk m c 1 t)
  Φ t := PhiS m c t.val (Nat.le_of_lt_succ t.isLt)
  q _ := fullShare
  owed _ := 0

/-- Its arrays are what the region finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = k0_pay6 (sums m c) (iblk m c 1 t) := by
  dsimp only [dats]

/-- Window 0's buffer holds its block at every point. -/
theorem before0_0 (c : Dev nD) (t : Fin cfg0.N) (d) : (dats m 0 c).before 0 t d = iblk m c 0 t :=
  before0_0_of m (dats m 0 c) (A_eq m c 0) (after0_0 m c) t d
/-- Window 1's buffer holds its block at every point. -/
theorem before0_1 (c : Dev nD) (t : Fin cfg0.N) (d) : (dats m 0 c).before 1 t d = iblk m c 1 t :=
  before0_1_of m (dats m 0 c) (A_eq m c 1) (after0_1 m c) t d
/-- Window 2's buffer holds its block at every point. -/
theorem before0_2 (c : Dev nD) (t : Fin cfg0.N) (d) : (dats m 0 c).before 2 t d = iblk m c 2 t :=
  before0_2_of m (dats m 0 c) (A_eq m c 2) (after0_2 m c) t d

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (bufTokens t) fullShare ((dats m 0 c).before 0 t d))
    ∗ (∃ d, owns (c : Thread nD τ) (bufLabels t) fullShare ((dats m 0 c).before 1 t d))
    ∗ (∃ d, owns (c : Thread nD τ) (bufProtos t) fullShare ((dats m 0 c).before 2 t d))
    ∗ (∃ d, owns (c : Thread nD τ) (bufOut t) fullShare ((dats m 0 c).before 3 t d)))

/-- What it leaves there. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- Window 0 is left at its block. -/
theorem leaves_0 (c : Dev nD) (t : Fin cfg0.N) :
    (dats m 0 c).leavesExact 0 t = owns (c : Thread nD τ) (bufTokens t) fullShare (iblk m c 0 t) := by
  unfold Dat.leavesExact; rw [show cfg0.idle 0 (grid0.coords t) = false from rfl, after0_0]
/-- Window 1 is left at its block. -/
theorem leaves_1 (c : Dev nD) (t : Fin cfg0.N) :
    (dats m 0 c).leavesExact 1 t = owns (c : Thread nD τ) (bufLabels t) fullShare (iblk m c 1 t) := by
  unfold Dat.leavesExact; rw [show cfg0.idle 1 (grid0.coords t) = false from rfl, after0_1]
/-- Window 2 is left at its block. -/
theorem leaves_2 (c : Dev nD) (t : Fin cfg0.N) :
    (dats m 0 c).leavesExact 2 t = owns (c : Thread nD τ) (bufProtos t) fullShare (iblk m c 2 t) := by
  unfold Dat.leavesExact; rw [show cfg0.idle 2 (grid0.coords t) = false from rfl, after0_2]

/-- Before the last point the result's window is left as it was found. -/
theorem leaves_3_idle (c : Dev nD) (t : Fin cfg0.N) (h : ¬atLast (grid0.coords t)) :
    (dats m 0 c).leavesExact 3 t
      = iprop(∃ d, owns (c : Thread nD τ) (bufOut t) fullShare ((dats m 0 c).before 3 t d)) := by
  have hi : cfg0.idle 3 (grid0.coords t) = true := by
    show (!(k0_cond2 (grid0.coords t) == 1#1)) = true
    rw [Bool.not_eq_true', beq_eq_false_iff_ne]; exact h
  have hf : (cfg0.win 3).flush t = false := by
    by_contra hc
    have hm := (flush0_3 t).mp (by simpa using hc)
    have hN : t.val < 8 := lt_of_lt_of_eq t.isLt (show cfg0.N = 8 from N_0)
    exact h ((atLast_iff t).mpr (by omega))
  exact Dat.leavesExact_idle (dats m 0 c) 3 t hi hf

/-- At the last point it is left at the result. -/
theorem leaves_3_last (c : Dev nD) (t : Fin cfg0.N) (h : atLast (grid0.coords t)) :
    (dats m 0 c).leavesExact 3 t
      = owns (c : Thread nD τ) (bufOut t) fullShare (k0_pay6 (sums m c) (iblk m c 1 t)) := by
  have hi : cfg0.idle 3 (grid0.coords t) = false := by
    show (!(k0_cond2 (grid0.coords t) == 1#1)) = false
    rw [Bool.not_eq_false', beq_iff_eq]; exact h
  unfold Dat.leavesExact; rw [hi, after0_3]

set_option maxHeartbeats 4800000 in
/-- The body at any point takes what it is handed to what it must leave. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN : t.val < 8 := lt_of_lt_of_eq t.isLt (show cfg0.N = 8 from N_0)
  by_cases h0 : t.val = 0
  · have hf : atFirst (grid0.coords t) := (atFirst_iff t).mpr h0
    have hl : ¬atLast (grid0.coords t) := fun h => by have := (atLast_iff t).mp h; omega
    have ht : t = firstPoint := Fin.ext h0
    rw [leaves_3_idle m c t hl, PhiS_castSucc m c t, PhiS_zero m c _ _ h0, invariant_eq]
    iintro ⟨⟨⟨HS0, HS1, ⟨%s2, HS2⟩⟩, Hg⟩, Ho, ⟨%d0, H0⟩, ⟨%d1, H1⟩, ⟨%d2, H2⟩, ⟨%d3, H3⟩⟩
    iapply (first_point c (grid0.coords t) (512 * t.val) (rowOffset t) _ _ _ _ _ _ _ _ _ _ _ _ _ _ hf hl (iblk m c 0 t) (iblk m c 1 t) (iblk m c 2 t) _ s2 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 Hg]
    · isplitl [HS0 HS1 HS2]
      · isplitl [HS0]
        · rw [show table m c = tableOf (iblk m c 2 t) from by rw [ht]; rfl]
          iexact HS0
        isplitl [HS1]
        · iexact HS1
        iexists _; isplitr; swap; · iexact HS2
        ipureintro
        have := agree_insert m c t s2 (fun y hy => by omega)
        unfold blockSums at this
        rw [show table m c = tableOf (iblk m c 2 t) from by rw [ht]; rfl] at this
        exact this
      iexact Hg
    isplitl [Ho]; · iexact Ho
    isplitl [H0]; · iexact H0
    isplitl [H1]; · iexact H1
    isplitl [H2]; · iexact H2
    iexists _; iexact H3
  · have hf : ¬atFirst (grid0.coords t) := fun h => h0 ((atFirst_iff t).mp h)
    rw [PhiS_castSucc m c t, PhiS_pos m c _ _ h0]
    by_cases h7 : t.val = 7
    · have hl : atLast (grid0.coords t) := (atLast_iff t).mpr h7
      rw [leaves_3_last m c t hl]
      iintro ⟨⟨⟨HS0, HS1, ⟨%s2, %hs2, HS2⟩⟩, Hg⟩, Ho, ⟨%d0, H0⟩, ⟨%d1, H1⟩, ⟨%d2, H2⟩, ⟨%d3, H3⟩⟩
      iapply (last_point c (grid0.coords t) (512 * t.val) (rowOffset t) _ _ _ _ _ _ _ _ _ _ _ _ _ _ hf hl (iblk m c 0 t) (iblk m c 1 t) (iblk m c 2 t) (table m c) (k0_pay4 (F := F)) s2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      have hs : AgreeBelow m c (t.val + 1) (insertRows (512 * t.val) (k0_pay5 (iblk m c 0 t) (table m c) (k0_pay4 (F := F))) s2) :=
        agree_insert m c t s2 hs2
      have he : insertRows (512 * t.val) (k0_pay5 (iblk m c 0 t) (table m c) (k0_pay4 (F := F))) s2 = sums m c :=
        agree_all m c _ (by rw [h7] at hs ⊢; exact hs)
      iintro ⟨H0, H1, H2, H3, HS0, HS1, HS2⟩
      isplitl [HS0 HS1 HS2 Hg]
      · isplitl [HS0 HS1 HS2]
        · isplitl [HS0]
          · iexact HS0
          isplitl [HS1]
          · iexact HS1
          iexists _; isplitr; swap; · iexact HS2
          ipureintro; exact hs
        iexact Hg
      isplitl [Ho]; · iexact Ho
      isplitl [H0]; · iexact H0
      isplitl [H1]; · iexact H1
      isplitl [H2]; · iexact H2
      rw [← he]
      iexact H3
    · have hl : ¬atLast (grid0.coords t) := fun h => h7 ((atLast_iff t).mp h)
      rw [leaves_3_idle m c t hl]
      iintro ⟨⟨⟨HS0, HS1, ⟨%s2, %hs2, HS2⟩⟩, Hg⟩, Ho, ⟨%d0, H0⟩, ⟨%d1, H1⟩, ⟨%d2, H2⟩, ⟨%d3, H3⟩⟩
      iapply (middle_point c (grid0.coords t) (512 * t.val) (rowOffset t) _ _ _ _ _ _ _ _ _ _ _ _ _ _ hf hl (iblk m c 0 t) (iblk m c 1 t) (iblk m c 2 t) _ (table m c) (k0_pay4 (F := F)) s2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]
          · iexact HS0
          isplitl [HS1]
          · iexact HS1
          iexists _; isplitr; swap; · iexact HS2
          ipureintro; exact agree_insert m c t s2 hs2
        iexact Hg
      isplitl [Ho]; · iexact Ho
      isplitl [H0]; · iexact H0
      isplitl [H1]; · iexact H1
      isplitl [H2]; · iexact H2
      iexists _; iexact H3

/-- The body the launch runs at point `t`. -/
theorem defs₀_row (t : Fin cfg0.N) :
    defs₀ (F := F) .tc cfg0.body (cfg0.bodyArgs t (cfg0.slots t)) = bodyAt0 t := by
  unfold defs₀; rw [Defs.onTc_tc]

/-- The launch's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the region's own back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), invariant_eq]
  iintro ⟨⟨HS0, HS1, ⟨%s2, -, HS2⟩⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
/-- The whole run: it terminates, every windowed array ends as the proof data says, and every semaphore counter is zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Run

end
-- ==== Proof.KernelValue.lean ====
/- What the idealized kernel's run leaves in memory: its result as a function of the argument arrays, the arguments
   unchanged, the semaphores zero. -/
module

public import proofs.«01_k».proof.Proof.KernelBody
public import Idealize.ShloMosaic.Lib.Pipeline.Value
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The labels as the kernel receives them: a column of 4096 rows. -/
def labelColumn (lab : IVec S4096 32) : IVec S4096x1 32 := shapeCast S4096x1 lab shapeCasts_S4096_S4096x1

/-- Rows `512 t` to `512 t + 511` of the features. -/
def rowsOf (t : Fin 8) (x : Vec F S4096x32 .f32) : Vec F S512x32 .f32 := fun y =>
  x (ix2 ⟨512 * t.val + (y 0).val, by
    have h : (y 0).val < 512 := (y 0).isLt
    have := t.isLt; omega⟩ (y 1))

/-- The class sums of all tokens, from the features and the prototypes. -/
def sumsOf (x : Vec F S4096x32 .f32) (p : Vec F S8192x32 .f32) : Vec F S4096x128 .f32 := fun y =>
  k0_pay5 (rowsOf ⟨(y 0).val / 512, by
    have h : (y 0).val < 4096 := (y 0).isLt
    omega⟩ x) (tableOf p) (k0_pay4 (F := F)) (ix2 ⟨(y 0).val % 512, Nat.mod_lt _ (by decide)⟩ (y 1))

/-- The kernel's result, from the features, the labels and the prototypes. -/
def resultOf (x : Vec F S4096x32 .f32) (lab : IVec S4096 32) (p : Vec F S8192x32 .f32) : Vec F S4096 .f32 :=
  shapeCast S4096 (k0_pay6 (sumsOf x p) (labelColumn lab)) shapeCasts_S4096x1_S4096

/-- The label column when the grid starts. -/
theorem V_main_v0 (c : Dev nD) :
    V m c main_v0 = labelColumn (m ((c : Thread nD τ).loc main_arg1)) := by
  unfold V V0 labelColumn
  simp only [hostOps0, List.flatten_cons, List.flatten_nil, List.append_nil, StableHlo.after_cons, StableHlo.after_nil]
  rw [StableHlo.reshape_result']
  rfl

/-- The feature block of a grid point is its 512 rows of the features. -/
theorem iblk_features (c : Dev nD) (t : Fin cfg0.N) :
    (iblk m c 0 t : Vec F S512x32 .f32) = rowsOf (t.cast N_0) (m ((c : Thread nD τ).loc main_arg0)) := by
  have hi : win0_0.index t 0 = t.val ∧ win0_0.index t 1 = 0 := by
    rcases fin_N0 t with rfl | rfl | rfl | rfl | rfl | rfl | rfl | rfl <;> decide
  funext j
  unfold iblk rowsOf
  rw [View.read_apply]
  show V m c main_arg0 _ = _
  rw [V_main_arg0]
  congr 1
  funext a
  apply Fin.ext
  match a with
  | ⟨0, _⟩ => show win0_0.index t 0 * 512 + 1 * (j 0).val = 512 * t.val + (j 0).val; rw [hi.1]; omega
  | ⟨1, _⟩ => show win0_0.index t 1 * 32 + 1 * (j 1).val = (j 1).val; rw [hi.2]; omega

/-- The label block of every grid point is the whole label column. -/
theorem iblk_labels (c : Dev nD) (t : Fin cfg0.N) :
    (iblk m c 1 t : IVec S4096x1 32) = labelColumn (m ((c : Thread nD τ).loc main_arg1)) := by
  have hi : win0_1.index t 0 = 0 ∧ win0_1.index t 1 = 0 := by
    rcases fin_N0 t with rfl | rfl | rfl | rfl | rfl | rfl | rfl | rfl <;> decide
  rw [← V_main_v0]
  funext j
  unfold iblk
  rw [View.read_apply]
  show V m c main_v0 _ = V m c main_v0 _
  congr 1
  funext a
  apply Fin.ext
  match a with
  | ⟨0, _⟩ => show win0_1.index t 0 * 4096 + 1 * (j 0).val = (j 0).val; rw [hi.1]; omega
  | ⟨1, _⟩ => show win0_1.index t 1 * 1 + 1 * (j 1).val = (j 1).val; rw [hi.2]; omega

/-- The prototype block of every grid point is the whole prototype array. -/
theorem iblk_prototypes (c : Dev nD) (t : Fin cfg0.N) :
    (iblk m c 2 t : Vec F S8192x32 .f32) = m ((c : Thread nD τ).loc main_arg2) := by
  have hi : win0_2.index t 0 = 0 ∧ win0_2.index t 1 = 0 := by
    rcases fin_N0 t with rfl | rfl | rfl | rfl | rfl | rfl | rfl | rfl <;> decide
  funext j
  unfold iblk
  rw [View.read_apply]
  show V m c main_arg2 _ = _
  rw [V_main_arg2]
  congr 1
  funext a
  apply Fin.ext
  match a with
  | ⟨0, _⟩ => show win0_2.index t 0 * 8192 + 1 * (j 0).val = (j 0).val; rw [hi.1]; omega
  | ⟨1, _⟩ => show win0_2.index t 1 * 32 + 1 * (j 1).val = (j 1).val; rw [hi.2]; omega

/-- The class sums the run collects are the class sums of the argument arrays. -/
theorem sums_eq (c : Dev nD) :
    sums m c = sumsOf (m ((c : Thread nD τ).loc main_arg0)) (m ((c : Thread nD τ).loc main_arg2)) := by
  funext y
  unfold sums sumsOf blockSums table
  rw [iblk_features, iblk_prototypes]
  rfl

/-- What the kernel's output array ends as. -/
def column (c : Dev nD) : Buf (Elt F) ((c : Thread nD τ).loc main_v1) :=
  k0_pay6 (sumsOf (m ((c : Thread nD τ).loc main_arg0)) (m ((c : Thread nD τ).loc main_arg2)))
    (labelColumn (m ((c : Thread nD τ).loc main_arg1)))

/-- The last point writes the whole output array back, holding that column. -/
theorem flushed_eq (c : Dev nD) (t : Fin cfg0.N) (hf : (cfg0.win 3).flush t = true) :
    (dats m 0 c).flushed 3 t = ((cfg0.win 3).blk t).view.read (Elt F) (column m c) := by
  have hN : cfg0.N = 8 := N_0
  have h7 : t.val = 7 := by have := (flush0_3 t).mp hf; have := t.isLt; omega
  obtain rfl : t = t0_7 := Fin.ext h7
  show (cfg0.win 3).cut (grid0.coords t0_7) ((dats m 0 c).after 3 t0_7) = _
  rw [after0_3, sums_eq, iblk_labels]
  have hz' : (fun a => win0_3.index t0_7 a * main_v1.ty.shape.size a) = fun _ => 0 :=
    funext fun a => by fin_cases a <;> decide
  exact (Memref.read_access_unit_zero (Elt F) main_v1 hz' (fun a => by rw [congrFun hz' a]; simp) (column m c)).symm

/-- So the output array ends as that column. -/
theorem final_column (c : Dev nD) : (dats m 0 c).arrAt 3 cfg0.N = column m c :=
  (dats m 0 c).arrAt_eq_of_cover 3 (column m c) (flushed_eq m c) fun i =>
    ⟨t0_7, (flush0_3 t0_7).mpr rfl, by
      show i ∈ ((View.whole main_v1).slice (win0_3.rect t0_7)).set
      rw [View.set_slice_whole, Rect.mem_set_unit]
      intro a
      have h0 : (i 0 : Nat) < 4096 := (i 0).isLt
      have h1 : (i 1 : Nat) < 1 := (i 1).isLt
      match a with
      | ⟨0, _⟩ =>
        show win0_3.index t0_7 0 * win0_3.size 0 ≤ (i 0 : Nat)
          ∧ (i 0 : Nat) < win0_3.index t0_7 0 * win0_3.size 0 + win0_3.xsize (grid0.coords t0_7) 0
        rw [show win0_3.index t0_7 0 * win0_3.size 0 = 0 from by decide +kernel,
          show win0_3.xsize (grid0.coords t0_7) 0 = 4096 from by decide +kernel]
        omega
      | ⟨1, _⟩ =>
        show win0_3.index t0_7 1 * win0_3.size 1 ≤ (i 1 : Nat)
          ∧ (i 1 : Nat) < win0_3.index t0_7 1 * win0_3.size 1 + win0_3.xsize (grid0.coords t0_7) 1
        rw [show win0_3.index t0_7 1 * win0_3.size 1 = 0 from by decide +kernel,
          show win0_3.xsize (grid0.coords t0_7) 1 = 1 from by decide +kernel]
        omega⟩

/-- What the program returns: the column laid out as a vector. -/
theorem tail_value (c : Dev nD) :
    Pipeline.afterTail₀ cfgs (dats m) 0 (V0 m) [hostOps1] c main_v2
      = resultOf (m ((c : Thread nD τ).loc main_arg0)) (m ((c : Thread nD τ).loc main_arg1))
          (m ((c : Thread nD τ).loc main_arg2)) := by
  have hA : Pipeline.withArrays (cfgs 0).spec c (V0 m c) (fun w => (dats m 0 c).arrAt w (cfgs 0).N)
      (Proc.devRef .tc main_v1) = column m c :=
    (Pipeline.withArrays_arr spec0 winFacts0.arr_inj c (V0 m c) _ (3 : Fin 4)).trans (final_column m c)
  unfold Pipeline.afterTail₀
  simp only [hostOps1, List.flatten_cons, List.flatten_nil, List.append_nil, StableHlo.after_cons, StableHlo.after_nil]
  rw [StableHlo.reshape_result', hA]
  rfl

/-- The run leaves the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run_and (frame_of m ρ (dats m) (A_eq m) ((θ_run defs _ _).mono (fun _ h => h.1) (run_main m ρ)))
    ((θ_run defs _ _).mono (fun _ h => h.2) (run_main m ρ)))

/-- The run returns `resultOf` of the arguments and leaves the arguments unchanged. -/
theorem run : θ_run defs (onTc (τ := τ) (main (F := F))) ⟨m, fun _ => 0, ρ⟩ (fun r => ∀ c : Dev nD,
      r.2.mem ((c.tc : Thread nD τ).loc main_v2)
        = resultOf (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  have hv : θ_run defs (onTc (τ := τ) (main (F := F))) ⟨m, fun _ => 0, ρ⟩ (fun r => ∀ c : Dev nD,
      r.2.mem ((c.tc : Thread nD τ).loc main_v2)
        = resultOf (m ((c.tc : Thread nD τ).loc main_arg0)) (m ((c.tc : Thread nD τ).loc main_arg1))
          (m ((c.tc : Thread nD τ).loc main_arg2))) :=
    (θ_run defs _ _).mono (fun _ h c => ((h.1 c).2 main_v2
      (Pipeline.mem_restRefs_of main_v2 (by decide) (by decide))).trans (tail_value m c)) (run_main m ρ)
  (θ_run defs _ _).mono (fun _ h c => ⟨h.2 c, h.1.1 c⟩) (θ_run_and (frame m ρ) hv)

end Cert.KernelIdeal.Run

end
-- ==== Proof.Weight.lean ====
/- The weight of one prototype for one token: the kernel's scaled form and the reference's form are the same number. -/
module

public import proofs.«01_k».proof.KernelIdeal
public import Idealize.ShloMosaic.PureOps.Ideal
public import Idealize.ShloMosaic.Lib.IdealHost

@[expose] public section

noncomputable section

namespace Cert.Weight

open Idealize.ShloMosaic

/-- The decay rate: the real number the 32-bit word of 0.1 stands for. -/
def rate : ℝ := 13421773 / 134217728

/-- The decay rate for powers of two. -/
def scale : ℝ := rate * (Real.log 2)⁻¹

/-- The word of the offset 1e-6. -/
abbrev offsetW : EReal := Ideal.ofBits .f32 0x358637BD#32
/-- The word of 2. -/
abbrev twoW : EReal := Ideal.ofBits .f32 0x40000000#32
/-- The word of minus the decay rate. -/
abbrev rateW : EReal := Ideal.ofBits .f32 0xBDCCCCCD#32
/-- The word of the kernel's floor 1e-30. -/
abbrev floorW : EReal := Ideal.ofBits .f32 0x0DA24260#32
/-- The word of the precondition's bound 5e-29. -/
abbrev boundW : EReal := Ideal.ofBits .f32 0x107D87B6#32
/-- The named constant "c_squared". -/
abbrev squareW : EReal := Named.named (F := Ideal) (φ := .f32) Cert.KernelIdeal.κ "c_squared" 0x3CAA8179#32
/-- The named constant "minus_two_c_squared". -/
abbrev crossW : EReal := Named.named (F := Ideal) (φ := .f32) Cert.KernelIdeal.κ "minus_two_c_squared" 0xBD2A8179#32

/-- "c_squared" is the square of the scale. -/
theorem squareW_eq : squareW = ((scale * scale : ℝ) : EReal) := by
  unfold scale rate
  rfl

/-- "minus_two_c_squared" is minus twice that square. -/
theorem crossW_eq : crossW = ((-2 * (scale * scale) : ℝ) : EReal) := by
  unfold scale rate
  rfl

/-- The offset is a real number. -/
theorem offsetW_eq : ∃ e : ℝ, offsetW = (e : EReal) :=
  ⟨_, by unfold offsetW; simp [Ideal.ofBits, Ideal.ieee, -EReal.coe_mul]; rfl⟩

/-- The word of 2 is 2. -/
theorem twoW_eq : twoW = ((2 : ℝ) : EReal) := by
  unfold twoW
  simp [Ideal.ofBits, Ideal.ieee, -EReal.coe_mul]; norm_num

/-- The word of minus the rate is minus the rate. -/
theorem rateW_eq : rateW = ((-rate : ℝ) : EReal) := by
  unfold rateW rate
  simp [Ideal.ofBits, Ideal.ieee, -EReal.coe_mul]; norm_num

/-- The floor is a real number not above 1.01e-30. -/
theorem floorW_eq : ∃ f : ℝ, floorW = (f : EReal) ∧ f ≤ 101 / 10 ^ 32 :=
  ⟨_, by unfold floorW; simp [Ideal.ofBits, Ideal.ieee, -EReal.coe_mul]; rfl, by norm_num⟩

/-- The bound is a real number not below 4.99e-29. -/
theorem boundW_eq : ∃ d : ℝ, boundW = (d : EReal) ∧ 499 / 10 ^ 31 ≤ d :=
  ⟨_, by unfold boundW; simp [Ideal.ofBits, Ideal.ieee, -EReal.coe_mul]; rfl, by norm_num⟩

/-- The scale is at least 0.1428, so its square times 4.99e-29 is above the floor. -/
theorem scale_ge : 1428 / 10000 ≤ scale := by
  have h1 : Real.log 2 ≤ 7 / 10 := by
    rw [Real.log_le_iff_le_exp (by norm_num)]
    refine le_trans ?_ (Real.sum_le_exp_of_nonneg (by norm_num) 5)
    norm_num [Finset.sum_range_succ, Nat.factorial]
  have h0 : 0 < Real.log 2 := Real.log_pos (by norm_num)
  have h2 : 1428 / 1000 ≤ (Real.log 2)⁻¹ := (le_inv_comm₀ (by norm_num) h0).mpr (by norm_num at h1 ⊢; linarith)
  unfold scale rate
  nlinarith

/-- The squared distance of a token and a prototype, expanded. -/
def dist2 (a b : Fin 32 → EReal) : EReal :=
  ∑ i, (a i + offsetW) * (a i + offsetW) - twoW * ∑ i, (a i + offsetW) * b i + ∑ i, b i * b i

/-- The reference's weight: the exponential of minus the rate times the distance. -/
def weight (a b : Fin 32 → EReal) : EReal := Ideal.exp (rateW * Ideal.sqrt (max (dist2 a b) 0))

/-- The kernel's scaled squared distance: one sum of 34 products. -/
def scaled (a b : Fin 32 → EReal) : EReal :=
  ∑ i, (crossW * (a i + offsetW)) * b i + (squareW * ∑ i, (a i + offsetW) * (a i + offsetW)) * 1
    + 1 * (squareW * ∑ i, b i * b i)

/-- The kernel's weight: a power of two. -/
def kernelWeight (a b : Fin 32 → EReal) : EReal :=
  Ideal.exp2 (0 - max (scaled a b) floorW * Ideal.rsqrt (max (scaled a b) floorW))

/-- The loss of a token, from the summed weight of its class and the summed weight of all prototypes. -/
def loss (num den : EReal) : EReal := -Ideal.log (if 0 < den then Ideal.div num den else num + offsetW)

/-- A sum of reals, read as an extended real. -/
theorem coe_sum {n : ℕ} (f : Fin n → ℝ) : ((∑ i, f i : ℝ) : EReal) = ∑ i, ((f i : ℝ) : EReal) :=
  map_sum (⟨⟨fun r : ℝ => (r : EReal), rfl⟩, EReal.coe_add⟩ : ℝ →+ EReal) f Finset.univ

/-- The squared distance over the reals. -/
def realDist2 (e : ℝ) (a b : Fin 32 → ℝ) : ℝ :=
  ∑ i, (a i + e) * (a i + e) - 2 * ∑ i, (a i + e) * b i + ∑ i, b i * b i

/-- On real inputs the squared distance is the real one. -/
theorem dist2_coe (e : ℝ) (he : offsetW = (e : EReal)) (a b : Fin 32 → ℝ) :
    dist2 (fun i => (a i : EReal)) (fun i => (b i : EReal)) = (realDist2 e a b : EReal) := by
  unfold dist2 realDist2
  rw [he, twoW_eq]
  simp only [EReal.coe_add, EReal.coe_sub, EReal.coe_mul, coe_sum]

/-- On real inputs the kernel's scaled squared distance is the real one times the square of the scale. -/
theorem scaled_coe (e : ℝ) (he : offsetW = (e : EReal)) (a b : Fin 32 → ℝ) :
    scaled (fun i => (a i : EReal)) (fun i => (b i : EReal)) = ((scale * scale * realDist2 e a b : ℝ) : EReal) := by
  have h : scale * scale * realDist2 e a b
      = ∑ i, (-2 * (scale * scale) * (a i + e)) * b i + scale * scale * (∑ i, (a i + e) * (a i + e))
        + scale * scale * ∑ i, b i * b i := by
    have h1 : ∑ i, (-2 * (scale * scale) * (a i + e)) * b i = -2 * (scale * scale) * ∑ i, (a i + e) * b i := by
      rw [Finset.mul_sum]
      exact Finset.sum_congr rfl fun i _ => by ring
    rw [h1]
    unfold realDist2
    ring
  rw [h]
  unfold scaled
  rw [he, squareW_eq, crossW_eq, mul_one, one_mul]
  simp only [EReal.coe_add, EReal.coe_mul, coe_sum]

/-- Where the squared distance is at least the bound, the two weights agree. -/
theorem kernelWeight_eq (a b : Fin 32 → ℝ) (h : boundW ≤ dist2 (fun i => (a i : EReal)) (fun i => (b i : EReal))) :
    kernelWeight (fun i => (a i : EReal)) (fun i => (b i : EReal))
      = weight (fun i => (a i : EReal)) (fun i => (b i : EReal)) := by
  obtain ⟨e, he⟩ := offsetW_eq
  obtain ⟨f, hf, hf'⟩ := floorW_eq
  obtain ⟨d, hd, hd'⟩ := boundW_eq
  rw [dist2_coe e he, hd, EReal.coe_le_coe_iff] at h
  unfold kernelWeight weight
  rw [dist2_coe e he, scaled_coe e he, hf, rateW_eq]
  generalize realDist2 e a b = D at h
  have hD : 0 < D := lt_of_lt_of_le (by norm_num) (hd'.trans h)
  have hs : 0 < scale := lt_of_lt_of_le (by norm_num) scale_ge
  have hlow : (2039 : ℝ) / 100000 ≤ scale * scale := by nlinarith [scale_ge]
  have hT : f ≤ scale * scale * D := by
    have : (2039 : ℝ) / 100000 * (499 / 10 ^ 31) ≤ scale * scale * D :=
      mul_le_mul hlow (hd'.trans h) (by norm_num) (by positivity)
    exact hf'.trans (le_trans (by norm_num) this)
  have hTpos : 0 < scale * scale * D := by positivity
  rw [max_eq_left (EReal.coe_le_coe_iff.mpr hT), max_eq_left (by exact_mod_cast hD.le)]
  rw [Ideal.rsqrt_coe, if_neg (not_lt.mpr hTpos.le), if_neg hTpos.ne', Ideal.sqrt_coe, if_neg (not_lt.mpr hD.le)]
  rw [← EReal.coe_mul, ← EReal.coe_mul, Ideal.exp_coe, ← EReal.coe_zero, ← EReal.coe_sub, Ideal.exp2_coe]
  congr 1
  have hroot : scale * scale * D * (Real.sqrt (scale * scale * D))⁻¹ = scale * Real.sqrt D := by
    rw [← div_eq_mul_inv, Real.div_sqrt, Real.sqrt_mul (by positivity), Real.sqrt_mul_self hs.le]
  rw [hroot]
  show (2 : ℝ) ^ (0 - scale * Real.sqrt D) = _
  rw [Real.rpow_def_of_pos (by norm_num)]
  congr 1
  have h0 : Real.log 2 ≠ 0 := (Real.log_pos (by norm_num)).ne'
  unfold scale
  field_simp
  ring

end Cert.Weight

end
-- ==== Proof.Block.lean ====
/- What the kernel computes, read at an index over the extended reals. -/
module

public import proofs.«01_k».proof.Proof.KernelValue
public import proofs.«01_k».proof.Proof.Weight
public import Idealize.ShloMosaic.Lib.Pointwise
public import Idealize.ShloMosaic.Lib.Affine

@[expose] public section

set_option maxRecDepth 16384

noncomputable section

namespace Cert.KernelIdeal.Run

open Idealize.ShloMosaic Idealize.ShloMosaic.Tactic
open Cert.KernelIdeal.Gen
open Cert.Weight

/-- The table at a column below 32: the prototype. -/
theorem table_low (p : Vec Ideal S8192x32 .f32) (k : Fin 8192) (i : Fin 32) :
    tableOf p (ix2 k ⟨i.val, by omega⟩) = p (ix2 k i) := by
  unfold tableOf
  refine (dif_pos i.isLt).trans ?_
  pointwise [k0_pay1]

/-- The table at column 32: one. -/
theorem table_one (p : Vec Ideal S8192x32 .f32) (k : Fin 8192) : tableOf p (ix2 k ⟨32, by omega⟩) = 1 := by
  unfold tableOf
  refine (dif_neg (show ¬32 < 32 by decide)).trans ((if_pos rfl).trans ?_)
  pointwise [k0_pay2]

/-- The table at column 33: the scaled squared norm of the prototype. -/
theorem table_norm (p : Vec Ideal S8192x32 .f32) (k : Fin 8192) :
    tableOf p (ix2 k ⟨33, by omega⟩) = squareW * ∑ i, p (ix2 k i) * p (ix2 k i) := by
  unfold tableOf
  refine (dif_neg (show ¬33 < 32 by decide)).trans ((if_neg (show ¬33 = 32 by decide)).trans ?_)
  pointwise [k0_pay3]

/-- One row of the product of the token block and the table: the scaled squared distance. -/
theorem dot_eq (v : Vec Ideal S512x32 .f32) (p : Vec Ideal S8192x32 .f32) (r : Fin 512) (k : Fin 8192) :
    (∑ j : Fin 34, (if h : j.val < 32 then crossW * (v (ix2 r ⟨j.val, h⟩) + offsetW)
        else if h : j.val - 32 < 1 then squareW * ∑ i, (v (ix2 r i) + offsetW) * (v (ix2 r i) + offsetW) else 1)
        * tableOf p (ix2 k j))
      = scaled (fun i => v (ix2 r i)) (fun i => p (ix2 k i)) := by
  rw [Fin.sum_univ_castSucc, Fin.sum_univ_castSucc]
  unfold scaled
  refine congrArg₂ (· + ·) (congrArg₂ (· + ·) (Finset.sum_congr rfl fun i _ => ?_) ?_) ?_
  · exact congrArg₂ (· * ·) (dif_pos i.isLt) (table_low p k i)
  · exact congrArg₂ (· * ·) ((dif_neg (by decide)).trans (dif_pos (by decide))) (table_one p k)
  · exact congrArg₂ (· * ·) ((dif_neg (by decide)).trans (dif_neg (by decide))) (table_norm p k)

/-- A block's class sums: the sum over the prototypes of weight times mask. -/
theorem block_at (v : Vec Ideal S512x32 .f32) (p : Vec Ideal S8192x32 .f32) (mk : Vec Ideal S8192x128 .f32)
    (r : Fin 512) (l : Fin 128) :
    k0_pay5 v (tableOf p) mk (ix2 r l)
      = ∑ k, kernelWeight (fun i => v (ix2 r i)) (fun i => p (ix2 k i)) * mk (ix2 k l) := by
  pointwise [k0_pay5]
  refine Finset.sum_congr rfl fun k _ => congrArg (· * mk (ix2 k l)) ?_
  unfold kernelWeight
  rw [← dot_eq v p r k]
  rfl

/-- The mask: column `l` marks the prototypes of class `l`, column 100 marks them all. -/
theorem mask_at (k : Fin 8192) (l : Fin 128) :
    k0_pay4 (F := Ideal) (ix2 k l) = if l.val = k.val % 100 ∨ l.val = 100 then 1 else 0 := by
  pointwise [k0_pay4]
  have hk := k.isLt
  have hl := l.isLt
  have h1 : IntOp.remsi .vector (BitVec.ofNat 32 k.val) 100#32 = BitVec.ofNat 32 (k.val % 100) := by
    apply BitVec.eq_of_toNat_eq
    rw [IntOp.toNat_remsi .vector (by rw [BitVec.toNat_ofNat]; omega) 100 (by decide) (by decide)]
    simp only [BitVec.toNat_ofNat]
    omega
  have h2 : ∀ n : ℕ, n ≤ 100 → (BitVec.ofNat 32 l.val == BitVec.ofNat 32 n) = decide (l.val = n) := by
    intro n hn
    rw [Bool.eq_iff_iff, beq_iff_eq, decide_eq_true_iff, ← BitVec.toNat_inj]
    simp only [BitVec.toNat_ofNat]
    omega
  rw [h1]
  have hone : FloatOps.sitofp (F := Ideal) .f32 (BitVec.setWidth 32 1#1) = 1 := by
    show (((BitVec.setWidth 32 1#1).toInt : ℝ) : EReal) = 1
    rw [show (BitVec.setWidth 32 1#1).toInt = 1 by decide]
    norm_num
  have hzero : FloatOps.sitofp (F := Ideal) .f32 (BitVec.setWidth 32 0#1) = 0 := by
    show (((BitVec.setWidth 32 0#1).toInt : ℝ) : EReal) = 0
    rw [show (BitVec.setWidth 32 0#1).toInt = 0 by decide]
    norm_num
  unfold IntOp.cmpi IntOp.ori
  dsimp only
  rw [h2 _ (by omega), h2 100 (le_refl _)]
  by_cases ha : l.val = k.val % 100
  · rw [if_pos (Or.inl ha), decide_eq_true ha]
    refine Eq.trans (congrArg _ (congrArg _ ?_)) hone
    cases decide (l.val = 100) <;> rfl
  · by_cases hb : l.val = 100
    · rw [if_pos (Or.inr hb), decide_eq_true hb, decide_eq_false ha]
      exact hone
    · rw [if_neg (not_or.mpr ⟨ha, hb⟩), decide_eq_false hb, decide_eq_false ha]
      exact hzero

/-- The kernel's last step at a token: the loss of the column that its label picks (nothing, if there is none) and the
    total. -/
theorem last_at (s : Vec Ideal S4096x128 .f32) (lab : IVec S4096x1 32) (r : Fin 4096) :
    k0_pay6 (F := Ideal) s lab (ix2 r 0)
      = loss (if h : (lab (ix2 r 0)).toNat < 128 then s (ix2 r ⟨(lab (ix2 r 0)).toNat, h⟩) else 0) (s (ix2 r 100)) := by
  have hcol : ∀ x : Fin 128, (BitVec.ofNat 32 x.val).toNat = x.val := fun x => by
    have := x.isLt
    rw [BitVec.toNat_ofNat, Nat.mod_eq_of_lt (by omega)]
  have hpick : (∑ x : Fin 128, Scalar.select (IntOp.cmpi .eq (BitVec.ofNat 32 x.val) (lab (ix2 r 0))) (s (ix2 r x)) 0)
      = if h : (lab (ix2 r 0)).toNat < 128 then s (ix2 r ⟨(lab (ix2 r 0)).toNat, h⟩) else 0 := by
    have hne : ∀ x : Fin 128, x.val ≠ (lab (ix2 r 0)).toNat →
        Scalar.select (IntOp.cmpi .eq (BitVec.ofNat 32 x.val) (lab (ix2 r 0))) (s (ix2 r x)) 0 = 0 := by
      intro x hx
      exact if_neg fun e => hx ((hcol x).symm.trans (congrArg BitVec.toNat (IntOp.cmpi_eq.mp e)))
    by_cases h : (lab (ix2 r 0)).toNat < 128
    · rw [dif_pos h, Finset.sum_eq_single ⟨(lab (ix2 r 0)).toNat, h⟩]
      · exact if_pos (IntOp.cmpi_eq.mpr (BitVec.eq_of_toNat_eq (hcol ⟨_, h⟩)))
      · exact fun x _ hx => hne x fun e => hx (Fin.ext e)
      · exact fun hn => absurd (Finset.mem_univ _) hn
    · rw [dif_neg h]
      exact Finset.sum_eq_zero fun x _ => hne x fun e => h (e ▸ x.isLt)
  pointwise [k0_pay6]
  rw [hpick]
  unfold loss
  rw [zero_sub]

/-- The collected class sums at a token and a column. -/
theorem sums_at (x : Vec Ideal S4096x32 .f32) (p : Vec Ideal S8192x32 .f32) (r : Fin 4096) (l : Fin 128) :
    sumsOf x p (ix2 r l)
      = ∑ k : Fin 8192, kernelWeight (fun i => x (ix2 r i)) (fun i => p (ix2 k i))
          * (if l.val = k.val % 100 ∨ l.val = 100 then 1 else 0) := by
  unfold sumsOf
  refine (block_at _ p _ _ l).trans (Finset.sum_congr rfl fun k _ => congrArg₂ (· * ·) ?_ (mask_at k l))
  refine congrArg (fun a => kernelWeight a _) (funext fun i => ?_)
  unfold rowsOf
  refine congrArg x (congrArg (ix2 · i) (Fin.ext ?_))
  exact Nat.div_add_mod _ _

/-- The kernel's result at a token whose label is not 100. -/
theorem result_at (x : Vec Ideal S4096x32 .f32) (lab : IVec S4096 32) (p : Vec Ideal S8192x32 .f32) (r : Fin 4096)
    (hl : (lab (ix1 r)).toNat ≠ 100) :
    resultOf (F := Ideal) x lab p (ix1 r)
      = loss (∑ k : Fin 8192, kernelWeight (fun i => x (ix2 r i)) (fun i => p (ix2 k i))
              * (if (lab (ix1 r)).toNat = k.val % 100 then 1 else 0))
          (∑ k : Fin 8192, kernelWeight (fun i => x (ix2 r i)) (fun i => p (ix2 k i))) := by
  have hlab : labelColumn lab (ix2 r 0) = lab (ix1 r) := by pointwise [labelColumn]
  pointwise [resultOf]
  rw [last_at, hlab, sums_at]
  refine congrArg₂ loss ?_ (Finset.sum_congr rfl fun k _ => ?_)
  · by_cases h : (lab (ix1 r)).toNat < 128
    · rw [dif_pos h, sums_at]
      refine Finset.sum_congr rfl fun k _ => congrArg _ (if_congr ?_ rfl rfl)
      exact or_iff_left hl
    · rw [dif_neg h]
      refine (Finset.sum_eq_zero fun k _ => ?_).symm
      have hk : k.val % 100 < 100 := Nat.mod_lt _ (by decide)
      rw [if_neg (by omega), mul_zero]
  · rw [if_pos (Or.inr (show (100 : Fin 128).val = 100 from rfl)), mul_one]

end Cert.KernelIdeal.Run

end
-- ==== Proof.Domain.lean ====
/- The precondition, read at an index over the extended reals. -/
module

public import proofs.«01_k».proof.Defs
public import proofs.«01_k».proof.Proof.Gen.Pre_in_domain
public import proofs.«01_k».proof.Proof.Weight
public import Idealize.ShloMosaic.Lib.Pointwise
public import Idealize.ShloMosaic.Lib.Affine

@[expose] public section

set_option maxRecDepth 16384

noncomputable section

namespace Cert.Pre_in_domain

open Idealize.ShloMosaic Idealize.ShloMosaic.Tactic Cert.Pre_in_domain Cert.Pre_in_domain.Gen

open Cert.Weight

/-- A decision's one-bit word is one only where the decision is true. -/
theorem true_of_word {P : Prop} [Decidable P] (h : BitVec.ofBool (decide P) = 1#1) : P := by
  by_contra hn
  rw [decide_eq_false hn] at h
  exact absurd h (by decide)

/-- An extended real whose absolute value is below the word of infinity is a real number. -/
theorem real_of_finite (a : EReal) (h : BitVec.ofBool (decide (FloatOps.absf (F := Ideal) (φ := .f32) a
    < Ideal.ofBits .f32 0x7F800000#32)) = 1#1) : a = (a.toReal : EReal) := by
  have hinf : Ideal.ofBits .f32 0x7F800000#32 = ⊤ := by simp [Ideal.ofBits, Ideal.ieee]
  rw [hinf] at h
  have hlt : max a (-a) < ⊤ := true_of_word h
  refine (EReal.coe_toReal ?_ ?_).symm
  · rintro rfl
    exact absurd hlt (by simp)
  · rintro rfl
    exact absurd hlt (by simp)

/-- What the precondition says at one token and one prototype: the features and prototypes are real numbers, the
    squared distance is at least the bound, the label is not 100, the prototype's label is its number modulo 100. -/
theorem domain_at (x : FVec Ideal S4096x32 .f32) (lab : IVec S4096 32) (p : FVec Ideal S8192x32 .f32) (pl : IVec S8192 32)
    (h : (fn x lab p pl).1 = (fun _ => 1#1) ∧ (fn x lab p pl).2.1 = (fun _ => 1#1) ∧ (fn x lab p pl).2.2.1 = (fun _ => 1#1)
      ∧ (fn x lab p pl).2.2.2.1 = (fun _ => 1#1) ∧ (fn x lab p pl).2.2.2.2 = (fun _ => 1#1))
    (r : Fin 4096) (k : Fin 8192) :
    (∀ i : Fin 32, x (ix2 r i) = ((x (ix2 r i)).toReal : EReal))
      ∧ (∀ i : Fin 32, p (ix2 k i) = ((p (ix2 k i)).toReal : EReal))
      ∧ boundW ≤ dist2 (fun i => x (ix2 r i)) (fun i => p (ix2 k i))
      ∧ (lab (ix1 r)).toNat ≠ 100
      ∧ pl (ix1 k) = IntOp.remsi .host (BitVec.ofNat 32 k.val) 100#32 := by
  obtain ⟨h1, h2, h3, h4, h5⟩ := h
  refine ⟨fun i => real_of_finite _ ?_, fun i => real_of_finite _ ?_, ?_, ?_, ?_⟩
  · have := congrFun h1 (ix2 r i)
    unfold fn fn_part1 at this
    dsimp only at this
    pointwise at this
    exact this
  · have := congrFun h2 (ix2 k i)
    unfold fn fn_part1 at this
    dsimp only at this
    pointwise at this
    exact this
  · have := congrFun h3 (ix2 r k)
    unfold fn fn_part1 at this
    dsimp only at this
    pointwise at this
    exact true_of_word this
  · have := congrFun h4 (ix1 r)
    unfold fn fn_part1 at this
    dsimp only at this
    pointwise at this
    rw [IntOp.cmpi_ne] at this
    exact fun h => this (BitVec.eq_of_toNat_eq h)
  · have := congrFun h5 (ix1 k)
    unfold fn fn_part1 at this
    dsimp only at this
    pointwise at this
    rw [IntOp.cmpi_eq] at this
    exact this

end Cert.Pre_in_domain

end
-- ==== Proof.ReferenceValue.lean ====
/- The reference's result, read at an index over the extended reals. -/
module

public import proofs.«01_k».proof.Proof.Gen.ReferenceIdeal
public import proofs.«01_k».proof.Proof.Gen.ReferenceIdeal.Run
public import proofs.«01_k».proof.Proof.Weight
public import Idealize.ShloMosaic.Lib.Pointwise
public import Idealize.ShloMosaic.Lib.Affine
public import Idealize.ShloMosaic.Lib.Tactic.CleanTypes

@[expose] public section

set_option maxRecDepth 16384

noncomputable section

namespace Cert.ReferenceIdeal.Value

open Idealize.ShloMosaic Idealize.ShloMosaic.Tactic Cert.ReferenceIdeal Cert.ReferenceIdeal.Gen

open Cert.Weight

/-- The comparison of a prototype's label with a token's label, as a number. -/
theorem same_label (k : Fin 8192) (a b : BitVec 32)
    (ha : a = IntOp.remsi .host (BitVec.ofNat 32 k.val) 100#32) :
    FloatOps.uitofp (F := Ideal) .f32 (IntOp.cmpi .eq a b) = if b.toNat = k.val % 100 then 1 else 0 := by
  have hk := k.isLt
  have h1 : IntOp.remsi .host (BitVec.ofNat 32 k.val) 100#32 = BitVec.ofNat 32 (k.val % 100) := by
    apply BitVec.eq_of_toNat_eq
    rw [IntOp.toNat_remsi .host (by rw [BitVec.toNat_ofNat]; omega) 100 (by decide) (by decide)]
    simp only [BitVec.toNat_ofNat]
    omega
  have h2 : (BitVec.ofNat 32 (k.val % 100) == b) = decide (b.toNat = k.val % 100) := by
    rw [Bool.eq_iff_iff, beq_iff_eq, decide_eq_true_iff, ← BitVec.toNat_inj]
    simp only [BitVec.toNat_ofNat]
    omega
  rw [ha, h1]
  unfold IntOp.cmpi
  dsimp only
  rw [h2]
  by_cases hc : b.toNat = k.val % 100
  · rw [if_pos hc, decide_eq_true hc]
    show (((BitVec.ofBool true).toNat : ℝ) : EReal) = 1
    rw [show (BitVec.ofBool true).toNat = 1 by decide]
    norm_num
  · rw [if_neg hc, decide_eq_false hc]
    show (((BitVec.ofBool false).toNat : ℝ) : EReal) = 0
    rw [show (BitVec.ofBool false).toNat = 0 by decide]
    norm_num

/-- The reference's result at a token. -/
theorem result_at (m : (ℓ : Loc nD τ sig) → Buf (Elt Ideal) ℓ) (c : Dev nD)
    (x : FVec Ideal S4096x32 .f32) (lab : IVec S4096 32) (p : FVec Ideal S8192x32 .f32) (pl : IVec S8192 32)
    (hx : m ((c.tc : Thread nD τ).loc main_arg0) = x) (hlab : m ((c.tc : Thread nD τ).loc main_arg1) = lab)
    (hp : m ((c.tc : Thread nD τ).loc main_arg2) = p) (hpl : m ((c.tc : Thread nD τ).loc main_arg3) = pl)
    (r : Fin 4096) :
    (res_main_v38 m c : FVec Ideal S4096 .f32) (ix1 r)
      = loss (∑ k : Fin 8192, weight (fun i => x (ix2 r i)) (fun i => p (ix2 k i))
            * FloatOps.uitofp (F := Ideal) .f32 (IntOp.cmpi .eq (pl (ix1 k)) (lab (ix1 r))))
          (∑ k : Fin 8192, weight (fun i => x (ix2 r i)) (fun i => p (ix2 k i))) := by
  subst hx hlab hp hpl
  unfold res_main_v38
  clean_types
  pointwise
  rfl

end Cert.ReferenceIdeal.Value

end
-- ==== Proof.Equation.lean ====
/- The equation of the algebraic claim: under the precondition the kernel's result and the reference's are the same
   vector. -/
module

public import proofs.«01_k».proof.Proof.Block
public import proofs.«01_k».proof.Proof.Domain
public import proofs.«01_k».proof.Proof.ReferenceValue

@[expose] public section

noncomputable section

namespace Cert.Equation

open Idealize.ShloMosaic Cert.Weight

/-- One token: the kernel's loss is the reference's. -/
theorem token_eq (x : FVec Ideal Cert.KernelIdeal.S4096x32 .f32) (lab : IVec Cert.KernelIdeal.S4096 32)
    (p : FVec Ideal Cert.KernelIdeal.S8192x32 .f32) (pl : IVec Cert.KernelIdeal.S8192 32)
    (h : (Cert.Pre_in_domain.fn x lab p pl).1 = (fun _ => 1#1) ∧ (Cert.Pre_in_domain.fn x lab p pl).2.1 = (fun _ => 1#1)
      ∧ (Cert.Pre_in_domain.fn x lab p pl).2.2.1 = (fun _ => 1#1)
      ∧ (Cert.Pre_in_domain.fn x lab p pl).2.2.2.1 = (fun _ => 1#1)
      ∧ (Cert.Pre_in_domain.fn x lab p pl).2.2.2.2 = (fun _ => 1#1)) (r : Fin 4096) :
    loss (∑ k : Fin 8192, weight (fun i => x (ix2 r i)) (fun i => p (ix2 k i))
          * FloatOps.uitofp (F := Ideal) .f32 (IntOp.cmpi .eq (pl (ix1 k)) (lab (ix1 r))))
        (∑ k : Fin 8192, weight (fun i => x (ix2 r i)) (fun i => p (ix2 k i)))
      = Cert.KernelIdeal.Run.resultOf (F := Ideal) x lab p (ix1 r) := by
  have hl := (Cert.Pre_in_domain.domain_at x lab p pl h r 0).2.2.2.1
  rw [Cert.KernelIdeal.Run.result_at x lab p r hl]
  have hw : ∀ k : Fin 8192, kernelWeight (fun i => x (ix2 r i)) (fun i => p (ix2 k i))
      = weight (fun i => x (ix2 r i)) (fun i => p (ix2 k i)) := by
    intro k
    obtain ⟨hx, hp, hb, -⟩ := Cert.Pre_in_domain.domain_at x lab p pl h r k
    rw [funext hx, funext hp] at hb ⊢
    exact kernelWeight_eq _ _ hb
  refine congrArg₂ loss (Finset.sum_congr rfl fun k _ => ?_) (Finset.sum_congr rfl fun k _ => (hw k).symm)
  rw [hw k, Cert.ReferenceIdeal.Value.same_label k _ _ (Cert.Pre_in_domain.domain_at x lab p pl h r k).2.2.2.2]

/-- The two results are the same vector. -/
theorem result_eq (m : (ℓ : Loc Cert.ReferenceIdeal.nD Cert.ReferenceIdeal.τ Cert.ReferenceIdeal.sig) → Buf (Elt Ideal) ℓ)
    (c : Dev Cert.ReferenceIdeal.nD) (x : FVec Ideal Cert.KernelIdeal.S4096x32 .f32) (lab : IVec Cert.KernelIdeal.S4096 32)
    (p : FVec Ideal Cert.KernelIdeal.S8192x32 .f32) (pl : IVec Cert.KernelIdeal.S8192 32)
    (hx : m ((c.tc : Thread Cert.ReferenceIdeal.nD Cert.ReferenceIdeal.τ).loc Cert.ReferenceIdeal.main_arg0) = x)
    (hlab : m ((c.tc : Thread Cert.ReferenceIdeal.nD Cert.ReferenceIdeal.τ).loc Cert.ReferenceIdeal.main_arg1) = lab)
    (hp : m ((c.tc : Thread Cert.ReferenceIdeal.nD Cert.ReferenceIdeal.τ).loc Cert.ReferenceIdeal.main_arg2) = p)
    (hpl : m ((c.tc : Thread Cert.ReferenceIdeal.nD Cert.ReferenceIdeal.τ).loc Cert.ReferenceIdeal.main_arg3) = pl)
    (h : (Cert.Pre_in_domain.fn x lab p pl).1 = (fun _ => 1#1) ∧ (Cert.Pre_in_domain.fn x lab p pl).2.1 = (fun _ => 1#1)
      ∧ (Cert.Pre_in_domain.fn x lab p pl).2.2.1 = (fun _ => 1#1)
      ∧ (Cert.Pre_in_domain.fn x lab p pl).2.2.2.1 = (fun _ => 1#1)
      ∧ (Cert.Pre_in_domain.fn x lab p pl).2.2.2.2 = (fun _ => 1#1)) :
    Cert.ReferenceIdeal.Value.res_main_v38 m c = Cert.KernelIdeal.Run.resultOf (F := Ideal) x lab p := by
  funext j
  have hj : j = (ix1 (j 0) : Cert.KernelIdeal.S4096.Idx) := eq_ix1 j
  rw [hj]
  exact (Cert.ReferenceIdeal.Value.result_at m c x lab p pl hx hlab hp hpl (j 0)).trans (token_eq x lab p pl h (j 0))

end Cert.Equation

end
-- ==== Proof.KernelFrame.lean ====
/- The kernel as it is compiled: it runs, and leaves its arguments and the semaphores alone. Of what its scratch buffers
   and its result hold nothing is said here, so the region's invariant is the same before every grid point. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's first condition: this is the grid's first point. -/
abbrev atFirst (i : grid0.Coords) : Prop :=
  (Scalar.cmpi .ne (Scalar.extui (Scalar.cmpi .eq (BitVec.ofNat 32 (i 0).val) 0#32)) 0#32) = 1#1

/-- The body's second condition: this is the grid's last point. -/
abbrev atLast (i : grid0.Coords) : Prop := k0_cond2 i = 1#1

/-- A buffer held with something in it. -/
abbrev held (c : Dev nD) {s : Shape} {e : EltTy} (b : Memref sig .tc .vmem s e) : sProp 𝕄 :=
  iprop(∃ d, owns (c : Thread nD τ) b fullShare d)

set_option maxHeartbeats 4000000 in
/-- Whichever of its conditions hold, the body keeps its three input buffers as they are and hands the others back. -/
theorem body_runs (c : Dev nD) (i : grid0.Coords) (arg1 : Memref sig .tc .vmem S512x32 .f32) (harg1 : arg1.IsWhole)
    (arg2 : Memref sig .tc .vmem S4096x1 .i32) (harg2 : arg2.IsWhole) (arg3 : Memref sig .tc .vmem S8192x32 .f32) (harg3 : arg3.IsWhole)
    (arg4 : Memref sig .tc .vmem S4096x1 .f32) (harg4 : arg4.IsWhole) (arg5 : Memref sig .tc .vmem S8192x34 .f32) (harg5 : arg5.IsWhole)
    (arg6 : Memref sig .tc .vmem S8192x128 .f32) (harg6 : arg6.IsWhole) (arg7 : Memref sig .tc .vmem S4096x128 .f32) (harg7 : arg7.IsWhole)
    (x0 : Vec F S512x32 .f32) (x1 : Vec F S4096x1 .i32) (x2 : Vec F S8192x32 .f32) (E : Set ℕ) (K : PUnit → sProp 𝕄) :
    iprop(owns (c : Thread nD τ) arg1 fullShare x0 ∗ owns (c : Thread nD τ) arg2 fullShare x1
        ∗ owns (c : Thread nD τ) arg3 fullShare x2 ∗ held c arg4 ∗ held c arg5 ∗ held c arg6 ∗ held c arg7
        ∗ (iprop(owns (c : Thread nD τ) arg1 fullShare x0 ∗ owns (c : Thread nD τ) arg2 fullShare x1
            ∗ owns (c : Thread nD τ) arg3 fullShare x2 ∗ held c arg4 ∗ held c arg5 ∗ held c arg6 ∗ held c arg7) -∗ K ⟨⟩))
      ⊢ wp frame (wpE (defs₀ (F := F)) Variants.none c none) E
          (cc0__dce_kernel i arg1 harg1 arg2 harg2 arg3 harg3 arg4 harg4 arg5 harg5 arg6 harg6 arg7 harg7) K := by
  simp only [cc0__dce_kernel_eq_skeleton]; unfold cc0__dce_kernel_skel
  unfold held owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  by_cases hc0 : atFirst i <;> by_cases hc1 : atLast i <;>
  · sl_exec (disch := first | sl_exact hc0 | sl_exact hc1)
    sl_step
    iapply Hk
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

/-- The region's invariant, buffer by buffer: the three scratches at some contents, the generator register at some
    state. -/
theorem invariant_eq (c : Dev nD) :
    (Pipeline.ΦA spec0 c : sProp 𝕄)
      = iprop(iprop(held c (Memref.whole cc0_scratch0) ∗ held c (Memref.whole cc0_scratch1)
          ∗ held c (Memref.whole cc0_scratch2)) ∗ (∃ r, prngReg c r)) := by
  unfold Pipeline.ΦA; rw [scopedRest0_eq]; simp only [held, owns_whole]; try rfl

/-- The window that the certificate says nothing of: the result's. -/
def unsaid : Fin 4 → Bool := fun w => w.val == 3

/-- The proof data: each input window's buffer stays at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- Its arrays are what the region finds. -/
theorem A_eq (c : Dev nD) (w : Fin cfg0.W) : (dats m 0 c).A w = V m c (Pipeline.arrRef spec0 w) := by
  dsimp only [dats]

/-- Window 0's buffer is left at its block. -/
theorem after0_0 (c : Dev nD) (t : Fin cfg0.N) : (dats m 0 c).after 0 t = iblk m c 0 t := by dsimp only [dats]
/-- Window 1's buffer is left at its block. -/
theorem after0_1 (c : Dev nD) (t : Fin cfg0.N) : (dats m 0 c).after 1 t = iblk m c 1 t := by dsimp only [dats]
/-- Window 2's buffer is left at its block. -/
theorem after0_2 (c : Dev nD) (t : Fin cfg0.N) : (dats m 0 c).after 2 t = iblk m c 2 t := by dsimp only [dats]

/-- Window 0's buffer is found at its block. -/
theorem before0_0 (c : Dev nD) (t : Fin cfg0.N) (d) : (dats m 0 c).before 0 t d = iblk m c 0 t :=
  before0_0_of m (dats m 0 c) (A_eq m c 0) (after0_0 m c) t d
/-- Window 1's buffer is found at its block. -/
theorem before0_1 (c : Dev nD) (t : Fin cfg0.N) (d) : (dats m 0 c).before 1 t d = iblk m c 1 t :=
  before0_1_of m (dats m 0 c) (A_eq m c 1) (after0_1 m c) t d
/-- Window 2's buffer is found at its block. -/
theorem before0_2 (c : Dev nD) (t : Fin cfg0.N) (d) : (dats m 0 c).before 2 t d = iblk m c 2 t :=
  before0_2_of m (dats m 0 c) (A_eq m c 2) (after0_2 m c) t d

/-- The body at any point takes what it is handed to what it must leave. -/
theorem sound_body (c : Dev nD) (t : Fin cfg0.N) :
    iprop(Pipeline.ΦA spec0 c ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ held c (win0_3.stage (cfg0.slots t 3)))
      ⊢ wp frame (wpE (defs₀ (F := F)) Variants.none c none) Set.univ (bodyAt0 t) (fun _ =>
        iprop(Pipeline.ΦA spec0 c ∗ (dats m 0 c).owesAt () t.succ
          ∗ owns (c : Thread nD τ) (win0_0.stage (cfg0.slots t 0)) fullShare ((dats m 0 c).after 0 t)
          ∗ owns (c : Thread nD τ) (win0_1.stage (cfg0.slots t 1)) fullShare ((dats m 0 c).after 1 t)
          ∗ owns (c : Thread nD τ) (win0_2.stage (cfg0.slots t 2)) fullShare ((dats m 0 c).after 2 t)
          ∗ held c (win0_3.stage (cfg0.slots t 3)))) := by
  unfold bodyAt0
  simp only [before0_0, before0_1, before0_2, after0_0, after0_1, after0_2]
  rw [show (dats m 0 c).owesAt () t.succ = (dats m 0 c).owesAt () t.castSucc from rfl, invariant_eq]
  iintro ⟨⟨⟨HS0, HS1, HS2⟩, Hg⟩, Ho, ⟨%d0, H0⟩, ⟨%d1, H1⟩, ⟨%d2, H2⟩, H3⟩
  iapply (body_runs c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

/-- The launch's obligation on the body. -/
theorem body_obligation (c : Dev nD) :
    BodyObligation (dats (F := F) m 0 c) (defs₀ (F := F)) Variants.none () Set.univ unsaid := fun t => by
  rw [bigSep_W0, bigSep_W0, show defs₀ (F := F) .tc cfg0.body (cfg0.bodyArgs t (cfg0.slots t)) = bodyAt0 t by
    unfold defs₀; rw [Defs.onTc_tc]]
  exact triple_restated (sound_body m c t) rfl .rfl fun _ => .rfl

/-- What the program writes after the region: its result alone. -/
theorem writes_after : ∀ ops ∈ ([hostOps1] : List (List (HloOp τ sig (Elt F)))), ∀ op ∈ ops,
    ∀ b : Ref sig .tc, Proc.devRef .tc b ∈ op.writes → b ∈ ({main_v2} : Finset (Ref sig .tc)) := by
  intro ops hops op hop b hb
  obtain rfl := List.mem_singleton.mp hops
  obtain rfl := List.mem_singleton.mp hop
  rw [StableHlo.reshape_writes, Finset.mem_singleton] at hb
  exact Finset.mem_singleton.mpr (Proc.devRef_injective _ hb)

set_option backward.isDefEq.respectTransparency.types false in
set_option maxHeartbeats 800000 in
/-- The whole run: it terminates, every array that it only reads stays as it was, and every semaphore counter is zero. -/
theorem run_main : θ_run defs (onTc (τ := τ) (main (F := F))) (s₀ m ρ) (fun r =>
    Pipeline.RDat.FramePostR (cfgs 0) (fun c => (dats m 0 c).toRForget unsaid) {main_v2} (V m) r ∧ r.2.sem = fun _ => 0) :=
  Pipeline.θ_run_frame_around_T_forget (Q' := _) cfgs (dats m) (0 : Fin 1) launch0 defs₀ Variants.none unsaid {main_v2} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := writes_after) (hmain := hmain m Variants.none) (hA := A_eq m) (hΦ := fun _ _ => rfl)

/-- The run leaves the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(Pipeline.RDat.FramePostR.arr_in h.1 c 0 rfl).trans ((A_eq m c 0).trans (V_main_arg0 m c)),
      ((h.1 c).2 main_arg1 (Finset.mem_sdiff.mpr
        ⟨Pipeline.mem_restRefs_of main_arg1 (by decide) (by decide), by decide⟩)).trans (V_main_arg1 m c),
      (Pipeline.RDat.FramePostR.arr_in h.1 c 2 rfl).trans ((A_eq m c 2).trans (V_main_arg2 m c)),
      ((h.1 c).2 main_arg3 (Finset.mem_sdiff.mpr
        ⟨Pipeline.mem_restRefs_of main_arg3 (by decide) (by decide), by decide⟩)).trans (V_main_arg3 m c)⟩,
    h.2⟩) (run_main m ρ)

end Cert.Kernel.Run

end
-- ==== Proof.lean ====
/- The claims, assembled: the two kernel programs and the reference run and leave their arguments alone, the idealization is
   the kernel with two constants made exact, and under the precondition it returns the reference's array. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_domain
public import proofs.«01_k».proof.Proof.Equation
public import proofs.«01_k».proof.Proof.KernelFrame
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its arguments unchanged and every semaphore counter at zero. -/
theorem frame_kernel : Cert.quiescent_Kernel := fun m g _ => Cert.Kernel.Run.frame m g

/-- The kernel's idealization runs, leaves its arguments unchanged and every semaphore counter at zero. -/
theorem frame_kernel_ideal : Cert.quiescent_KernelIdeal := fun m g _ => Cert.KernelIdeal.Run.frame m g

/-- The reference runs, leaves its arguments unchanged and every semaphore counter at zero. -/
theorem frame_reference_ideal : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The idealization changes the kernel only by giving two constants their exact values. -/
theorem preserves : Cert.preserves_Kernel_KernelIdeal := by
  refine ⟨?_, ?_⟩ <;> exact IdealRules.named_const.statement Cert.KernelIdeal.κ _ .f32 _ _ rfl

/-- Under the precondition the kernel's idealization and the reference return the same array. -/
theorem algebraic : Cert.algebraic_KernelIdeal_ReferenceIdeal_pre_in_domain := by
  intro m g m' g' hpre hagree
  refine ⟨_, Cert.KernelIdeal.Run.run m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3⟩ := hagree c
  exact Cert.Equation.result_eq m' c _ _ _ _ h0 h1 h2 h3 (hpre c)

/-- All the claims. -/
theorem claim : Cert.Claim :=
  ⟨Cert.Kernel.Gen.facts, Cert.KernelIdeal.Gen.facts, Cert.ReferenceIdeal.Gen.facts, Cert.Pre_in_domain.Gen.facts,
    frame_kernel, frame_kernel_ideal, fun m g _ => Cert.KernelIdeal.Run.frame m g,
    frame_reference_ideal, fun m g _ => frame_reference_ideal m g trivial, preserves, algebraic⟩

end Cert.Proof

end
